-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x3072x18176 : Shape := ⟨3, ![1, 3072, 18176]⟩
abbrev S9088x2560 : Shape := ⟨2, ![9088, 2560]⟩
abbrev S_ : Shape := ⟨0, ![]⟩
abbrev S1x3072x9088 : Shape := ⟨3, ![1, 3072, 9088]⟩

class Facts : Prop where
  bitsLt_bf16_f32 : FTy.bits .bf16 < FTy.bits .f32
  slices_S1x3072x18176_S1x3072x9088_0_0_0 : S1x3072x18176.Slices ![0, 0, 0] S1x3072x9088
  bcast_S_S1x3072x9088 : S_.BroadcastsInDim S1x3072x9088 (![] : Fin 0 → Fin S1x3072x9088.rank)
  slices_S1x3072x18176_S1x3072x9088_0_0_9088 : S1x3072x18176.Slices ![0, 0, 9088] S1x3072x9088
  reducesTo_S1x3072x9088_S_d0_1_2 : S1x3072x9088.ReducesTo [0, 1, 2] S_
  h_S_ : 0 < S_.numel

variable [Facts]

def fn_silu {F : FTy → Type} [FloatOps F] (arg0 : FVec F S1x3072x9088 .f32) : FVec F S1x3072x9088 .f32 :=
  let v0 : FVec F S1x3072x9088 .f32 := Host.negf arg0
  let v1 : FVec F S1x3072x9088 .f32 := Host.exp v0
  let cst : FVec F S_ .f32 := constant S_ .f32 0x3F800000#32
  let v2 : FVec F S1x3072x9088 .f32 := broadcastInDim S1x3072x9088 ![] bcast_S_S1x3072x9088 cst
  let v3 : FVec F S1x3072x9088 .f32 := addf v2 v1
  let cst_0 : FVec F S_ .f32 := constant S_ .f32 0x3F800000#32
  let v4 : FVec F S1x3072x9088 .f32 := broadcastInDim S1x3072x9088 ![] bcast_S_S1x3072x9088 cst_0
  let v5 : FVec F S1x3072x9088 .f32 := Host.divf v4 v3
  let v6 : FVec F S1x3072x9088 .f32 := mulf arg0 v5
  v6

def fn {F : FTy → Type} [FloatOps F] (main_arg0 : FVec F S1x3072x18176 .bf16) (main_arg1 : FVec F S9088x2560 .fp8e4m3) (main_arg2 : FVec F S_ .f32) : IVec S_ 1 :=
  let main_v0 : FVec F S1x3072x18176 .f32 := (extf .f32 · bitsLt_bf16_f32) main_arg0
  let main_v1 : FVec F S1x3072x9088 .f32 := (extractStridedSlice S1x3072x9088 ![0, 0, 0] · slices_S1x3072x18176_S1x3072x9088_0_0_0) main_v0
  let main_v2 : FVec F S1x3072x9088 .f32 := fn_silu (F := F) main_v1
  let main_v3 : FVec F S1x3072x9088 .f32 := (extractStridedSlice S1x3072x9088 ![0, 0, 9088] · slices_S1x3072x18176_S1x3072x9088_0_0_9088) main_v0
  let main_v4 : FVec F S1x3072x9088 .f32 := mulf main_v2 main_v3
  let main_v5 : FVec F S1x3072x9088 .f32 := Host.absf main_v4
  let main_cst : FVec F S_ .f32 := constant S_ .f32 0x7F7FFFFF#32
  let main_v6 : FVec F S1x3072x9088 .f32 := broadcastInDim S1x3072x9088 ![] bcast_S_S1x3072x9088 main_cst
  let main_v7 : IVec S1x3072x9088 1 := cmpf .ole main_v5 main_v6
  let main_c : IVec S_ 1 := constantI S_ 1 1#1
  let main_v8 : IVec S_ 1 := (fun x v => Host.reduce IntOp.andi x v reducesTo_S1x3072x9088_S_d0_1_2 h_S_) main_v7 main_c
  main_v8
-- ==== Kernel.lean ====
abbrev S1x3072x18176 : Shape := ⟨3, ![1, 3072, 18176]⟩
abbrev S9088x2560 : Shape := ⟨2, ![9088, 2560]⟩
abbrev S_ : Shape := ⟨0, ![]⟩
abbrev S3072x18176 : Shape := ⟨2, ![3072, 18176]⟩
abbrev S1x1 : Shape := ⟨2, ![1, 1]⟩
abbrev S64x9088 : Shape := ⟨2, ![64, 9088]⟩
abbrev S1x64x9088 : Shape := ⟨3, ![1, 64, 9088]⟩
abbrev S1 : Shape := ⟨1, ![1]⟩
abbrev S1x1x1 : Shape := ⟨3, ![1, 1, 1]⟩
abbrev S3072x2560 : Shape := ⟨2, ![3072, 2560]⟩
abbrev S3072x9088 : Shape := ⟨2, ![3072, 9088]⟩
abbrev S256x9088 : Shape := ⟨2, ![256, 9088]⟩
abbrev S256x2560 : Shape := ⟨2, ![256, 2560]⟩

abbrev nBuf : Space → Nat
  | .hbm => 9
  | .vmem => 13
  | .smem => 4
  | _ => 0

abbrev bufTy : (tb : Table) → Fin (tcTables nBuf tb) → BufTy
  | .hbm, ⟨0, _⟩ => ⟨S1x3072x18176, .bf16⟩
  | .hbm, ⟨1, _⟩ => ⟨S9088x2560, .fp8e4m3⟩
  | .hbm, ⟨2, _⟩ => ⟨S_, .f32⟩
  | .hbm, ⟨3, _⟩ => ⟨S3072x18176, .bf16⟩
  | .hbm, ⟨4, _⟩ => ⟨S1x1, .f32⟩
  | .hbm, ⟨5, _⟩ => ⟨S1, .f32⟩
  | .hbm, ⟨6, _⟩ => ⟨S3072x2560, .bf16⟩
  | .hbm, ⟨7, _⟩ => ⟨S3072x9088, .fp8e4m3⟩
  | .hbm, ⟨8, _⟩ => ⟨S1, .f32⟩
  | .local _ .vmem, ⟨0, _⟩ => ⟨S64x9088, .bf16⟩
  | .local _ .vmem, ⟨1, _⟩ => ⟨S64x9088, .bf16⟩
  | .local _ .vmem, ⟨2, _⟩ => ⟨S64x9088, .bf16⟩
  | .local _ .vmem, ⟨3, _⟩ => ⟨S64x9088, .bf16⟩
  | .local _ .vmem, ⟨4, _⟩ => ⟨S256x9088, .bf16⟩
  | .local _ .vmem, ⟨5, _⟩ => ⟨S256x9088, .bf16⟩
  | .local _ .vmem, ⟨6, _⟩ => ⟨S256x9088, .bf16⟩
  | .local _ .vmem, ⟨7, _⟩ => ⟨S256x9088, .bf16⟩
  | .local _ .vmem, ⟨8, _⟩ => ⟨S9088x2560, .fp8e4m3⟩
  | .local _ .vmem, ⟨9, _⟩ => ⟨S256x2560, .bf16⟩
  | .local _ .vmem, ⟨10, _⟩ => ⟨S256x2560, .bf16⟩
  | .local _ .vmem, ⟨11, _⟩ => ⟨S256x9088, .fp8e4m3⟩
  | .local _ .vmem, ⟨12, _⟩ => ⟨S256x9088, .fp8e4m3⟩
  | .local _ .smem, ⟨0, _⟩ => ⟨S1x1, .f32⟩
  | .local _ .smem, ⟨1, _⟩ => ⟨S1x1, .f32⟩
  | .local _ .smem, ⟨2, _⟩ => ⟨S1, .f32⟩
  | .local _ .smem, ⟨3, _⟩ => ⟨S1, .f32⟩
  | _, _ => ⟨S1x3072x18176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc0_stg2_0 : Ref sig .tc := ⟨.smem, 0, rfl⟩
abbrev cc1_stg0_0 : Ref sig .tc := ⟨.smem, 1, rfl⟩
abbrev cc1_stg1_0 : Ref sig .tc := ⟨.smem, 2, rfl⟩
abbrev cc1_stg7_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x9088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x9088 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x9088 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S9088x2560 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2560 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x9088 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .smem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S1x3072x18176 : Shape := ⟨3, ![1, 3072, 18176]⟩
abbrev S9088x2560 : Shape := ⟨2, ![9088, 2560]⟩
abbrev S_ : Shape := ⟨0, ![]⟩
abbrev S3072x18176 : Shape := ⟨2, ![3072, 18176]⟩
abbrev S1 : Shape := ⟨1, ![1]⟩
abbrev S3072x2560 : Shape := ⟨2, ![3072, 2560]⟩
abbrev S3072x9088 : Shape := ⟨2, ![3072, 9088]⟩
abbrev S1x3072x9088 : Shape := ⟨3, ![1, 3072, 9088]⟩
abbrev S1x1x1 : Shape := ⟨3, ![1, 1, 1]⟩

abbrev nBuf : Space → Nat
  | .hbm => 8
  | .vmem => 4
  | .smem => 2
  | _ => 0

abbrev bufTy : (tb : Table) → Fin (tcTables nBuf tb) → BufTy
  | .hbm, ⟨0, _⟩ => ⟨S1x3072x18176, .bf16⟩
  | .hbm, ⟨1, _⟩ => ⟨S9088x2560, .fp8e4m3⟩
  | .hbm, ⟨2, _⟩ => ⟨S_, .f32⟩
  | .hbm, ⟨3, _⟩ => ⟨S3072x18176, .bf16⟩
  | .hbm, ⟨4, _⟩ => ⟨S1, .f32⟩
  | .hbm, ⟨5, _⟩ => ⟨S3072x2560, .bf16⟩
  | .hbm, ⟨6, _⟩ => ⟨S3072x9088, .fp8e4m3⟩
  | .hbm, ⟨7, _⟩ => ⟨S1, .f32⟩
  | .local _ .vmem, ⟨0, _⟩ => ⟨S3072x18176, .bf16⟩
  | .local _ .vmem, ⟨1, _⟩ => ⟨S9088x2560, .fp8e4m3⟩
  | .local _ .vmem, ⟨2, _⟩ => ⟨S3072x2560, .bf16⟩
  | .local _ .vmem, ⟨3, _⟩ => ⟨S3072x9088, .fp8e4m3⟩
  | .local _ .smem, ⟨0, _⟩ => ⟨S1, .f32⟩
  | .local _ .smem, ⟨1, _⟩ => ⟨S1, .f32⟩
  | _, _ => ⟨S1x3072x18176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3072x18176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9088x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3072x9088 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelRun.lean ====
/- The kernel's run with every buffer's contents at the end: what the two regions and the reshapes
   between them leave. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends, and every buffer outside the regions' own ends at the contents the chain of items leaves. -/
theorem run : θ_run defs (onTc (τ := τ) (main (F := F))) ⟨m, fun _ => 0, ρ⟩ fun r => ∀ c : Dev nD, ∀ b ∈ Pipeline.ucRefs τ sig, r.2.mem (((c : Thread nD τ)).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelIdeal.Hand

end
-- ==== Proof.KernelBlocks.lean ====
/- What one grid point of each of the kernel's two regions leaves in its output buffers, as the
   printed payloads of the blocks it loads: the pieces each run stored, read back. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- The one index of a [1, 1] array. -/
abbrev i11 : S1x1.Idx := Shape.Idx.first (Nat.lt_of_lt_of_eq Nat.one_pos numel1_S1x1.symm)
/-- The one index of a [1] array. -/
abbrev i1 : S1.Idx := Shape.Idx.first (Nat.lt_of_lt_of_eq Nat.one_pos numel1_S1.symm)

/-- The first six steps of the kernel's search for the exponent field of `a / 448`: its bits 128 to 4. -/
def field4 (a : F .f32) : BitVec 32 :=
  let v4 : BitVec 1 := Scalar.cmpf .olt (k1_pay3 a) (k1_pay4 (F := F))
  let v5 : BitVec 32 := Scalar.select v4 0#32 128#32
  let v9 : BitVec 1 := Scalar.cmpf .olt (k1_pay3 a) (k1_pay5 a)
  let v10 : BitVec 32 := Scalar.addi v5 64#32
  let v11 : BitVec 32 := Scalar.select v9 v5 v10
  let v15 : BitVec 1 := Scalar.cmpf .olt (k1_pay3 a) (k1_pay6 a)
  let v16 : BitVec 32 := Scalar.addi v11 32#32
  let v17 : BitVec 32 := Scalar.select v15 v11 v16
  let v21 : BitVec 1 := Scalar.cmpf .olt (k1_pay3 a) (k1_pay7 a)
  let v22 : BitVec 32 := Scalar.addi v17 16#32
  let v23 : BitVec 32 := Scalar.select v21 v17 v22
  let v27 : BitVec 1 := Scalar.cmpf .olt (k1_pay3 a) (k1_pay8 a)
  let v28 : BitVec 32 := Scalar.addi v23 8#32
  let v29 : BitVec 32 := Scalar.select v27 v23 v28
  let v33 : BitVec 1 := Scalar.cmpf .olt (k1_pay3 a) (k1_pay9 a)
  let v34 : BitVec 32 := Scalar.addi v29 4#32
  Scalar.select v33 v29 v34

/-- The kernel's scale at the greatest magnitude `a`. -/
def scaleOf (a : F .f32) : F .f32 := k1_pay10 (k1_pay3 a) (field4 a) 2#32

/-- The kernel's block of scaled values, clipped from below only, at the greatest magnitude `a`. -/
def loClip (a : F .f32) (g u : Vec F S256x9088 .bf16) : FVec F S256x9088 .f32 := k1_pay11 (k1_pay3 a) (field4 a) 2#32 g u

/-- A later point of the first region: the word held, or the block's greatest magnitude if that is greater. -/
theorem out0_B (c : Dev nD) (i : grid0.Coords) (arg1 : Memref sig .tc .vmem S64x9088 .bf16) (harg1 : arg1.IsWhole) (arg2 : Memref sig .tc .vmem S64x9088 .bf16) (harg2 : arg2.IsWhole) (arg3 : Memref sig .tc .smem S1x1 .f32) (harg3 : arg3.IsWhole) (hc0 : ¬cond0_0 i)
    (x0 x1 : Vec F S64x9088 .bf16) (xo : Vec F S1x1 .f32) :
    out0_B_2 c i arg1 harg1 arg2 harg2 arg3 harg3 hc0 x0 x1 xo = fun _ => k0_pay1 x0 x1 (xo i11) := by
  unfold out0_B_2
  rw [View.read_writes_eq_canon _ _ _ (cover0_B_2 c i arg1 harg1 arg2 harg2 arg3 harg3 hc0 x0 x1 xo)]
  unfold kernelRun0_B
  dsimp only
  sl_unfold_words
  rw [View.canon_unit_zero hz]
  simp only [View.readAt_eq_ld, harg1.read_unread, harg2.read_unread, harg3.read_unread, View.ld_unit_zero (S := S64x9088) hz, View.ld_unit_zero (S := S1x1) hz]
  rw [View.ld_unit_zero (S := S1x1) hz]
  rfl

/-- The first point of the first region: the same, over zero. -/
theorem out0_A (c : Dev nD) (i : grid0.Coords) (arg1 : Memref sig .tc .vmem S64x9088 .bf16) (harg1 : arg1.IsWhole) (arg2 : Memref sig .tc .vmem S64x9088 .bf16) (harg2 : arg2.IsWhole) (arg3 : Memref sig .tc .smem S1x1 .f32) (harg3 : arg3.IsWhole) (hc0 : cond0_0 i)
    (x0 x1 : Vec F S64x9088 .bf16) :
    out0_A_2 c i arg1 harg1 arg2 harg2 arg3 harg3 hc0 x0 x1 = fun _ => k0_pay1 x0 x1 (Scalar.ofBits .f32 0x00000000#32) := by
  unfold out0_A_2
  rw [View.read_writes_eq_canon _ _ _ (cover0_A_2 c i arg1 harg1 arg2 harg2 arg3 harg3 hc0 x0 x1)]
  unfold kernelRun0_A
  dsimp only
  sl_unfold_words
  rw [View.canon_cons_unit_zero (S := S1x1) hz]
  simp only [View.readAt_eq_ld, harg1.read_unread, harg2.read_unread, harg3.read_unread, View.ld_unit_zero (S := S64x9088) hz, View.ld_unit_zero (S := S1x1) hz]
  rfl

/-- A point of the second region leaves the rows of `y`. -/
theorem out1_5 (c : Dev nD) (i : grid1.Coords) (arg1 : Memref sig .tc .smem S1x1 .f32) (harg1 : arg1.IsWhole) (arg2 : Memref sig .tc .smem S1 .f32) (harg2 : arg2.IsWhole)
    (arg3 : Memref sig .tc .vmem S256x9088 .bf16) (harg3 : arg3.IsWhole) (arg4 : Memref sig .tc .vmem S256x9088 .bf16) (harg4 : arg4.IsWhole)
    (arg5 : Memref sig .tc .vmem S9088x2560 .fp8e4m3) (harg5 : arg5.IsWhole) (arg6 : Memref sig .tc .vmem S256x2560 .bf16) (harg6 : arg6.IsWhole)
    (arg7 : Memref sig .tc .vmem S256x9088 .fp8e4m3) (harg7 : arg7.IsWhole) (arg8 : Memref sig .tc .smem S1 .f32) (harg8 : arg8.IsWhole)
    (x0 : Vec F S1x1 .f32) (x1 : Vec F S1 .f32) (x2 : Vec F S256x9088 .bf16) (x3 : Vec F S256x9088 .bf16) (x4 : Vec F S9088x2560 .fp8e4m3) :
    out1_A_5 c i arg1 harg1 arg2 harg2 arg3 harg3 arg4 harg4 arg5 harg5 arg6 harg6 arg7 harg7 arg8 harg8 x0 x1 x2 x3 x4 = k1_pay2 (scaleOf (x0 i11)) (Scalar.ofBits .f32 0x43E00000#32) (loClip (x0 i11) x2 x3) x4 (x1 i1) := by
  unfold out1_A_5
  rw [View.read_writes_eq_canon _ _ _ (cover1_A_5 c i arg1 harg1 arg2 harg2 arg3 harg3 arg4 harg4 arg5 harg5 arg6 harg6 arg7 harg7 arg8 harg8 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, View.ld_unit_zero (S := S256x9088) hz, View.ld_unit_zero (S := S9088x2560) hz]
  rw [View.ld_unit_zero (S := S1x1) hz, View.ld_unit_zero (S := S1) hz1]
  rfl

/-- A point of the second region leaves the rows of codes. -/
theorem out1_6 (c : Dev nD) (i : grid1.Coords) (arg1 : Memref sig .tc .smem S1x1 .f32) (harg1 : arg1.IsWhole) (arg2 : Memref sig .tc .smem S1 .f32) (harg2 : arg2.IsWhole)
    (arg3 : Memref sig .tc .vmem S256x9088 .bf16) (harg3 : arg3.IsWhole) (arg4 : Memref sig .tc .vmem S256x9088 .bf16) (harg4 : arg4.IsWhole)
    (arg5 : Memref sig .tc .vmem S9088x2560 .fp8e4m3) (harg5 : arg5.IsWhole) (arg6 : Memref sig .tc .vmem S256x2560 .bf16) (harg6 : arg6.IsWhole)
    (arg7 : Memref sig .tc .vmem S256x9088 .fp8e4m3) (harg7 : arg7.IsWhole) (arg8 : Memref sig .tc .smem S1 .f32) (harg8 : arg8.IsWhole)
    (x0 : Vec F S1x1 .f32) (x1 : Vec F S1 .f32) (x2 : Vec F S256x9088 .bf16) (x3 : Vec F S256x9088 .bf16) (x4 : Vec F S9088x2560 .fp8e4m3) :
    out1_A_6 c i arg1 harg1 arg2 harg2 arg3 harg3 arg4 harg4 arg5 harg5 arg6 harg6 arg7 harg7 arg8 harg8 x0 x1 x2 x3 x4 = k1_pay1 (Scalar.ofBits .f32 0x43E00000#32) (loClip (x0 i11) x2 x3) := by
  unfold out1_A_6
  rw [View.read_writes_eq_canon _ _ _ (cover1_A_6 c i arg1 harg1 arg2 harg2 arg3 harg3 arg4 harg4 arg5 harg5 arg6 harg6 arg7 harg7 arg8 harg8 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, View.ld_unit_zero (S := S256x9088) hz, View.ld_unit_zero (S := S9088x2560) hz]
  rw [View.ld_unit_zero (S := S1x1) hz]
  rfl

/-- A point of the second region leaves the scale. -/
theorem out1_7 (c : Dev nD) (i : grid1.Coords) (arg1 : Memref sig .tc .smem S1x1 .f32) (harg1 : arg1.IsWhole) (arg2 : Memref sig .tc .smem S1 .f32) (harg2 : arg2.IsWhole)
    (arg3 : Memref sig .tc .vmem S256x9088 .bf16) (harg3 : arg3.IsWhole) (arg4 : Memref sig .tc .vmem S256x9088 .bf16) (harg4 : arg4.IsWhole)
    (arg5 : Memref sig .tc .vmem S9088x2560 .fp8e4m3) (harg5 : arg5.IsWhole) (arg6 : Memref sig .tc .vmem S256x2560 .bf16) (harg6 : arg6.IsWhole)
    (arg7 : Memref sig .tc .vmem S256x9088 .fp8e4m3) (harg7 : arg7.IsWhole) (arg8 : Memref sig .tc .smem S1 .f32) (harg8 : arg8.IsWhole)
    (x0 : Vec F S1x1 .f32) (x1 : Vec F S1 .f32) (x2 : Vec F S256x9088 .bf16) (x3 : Vec F S256x9088 .bf16) (x4 : Vec F S9088x2560 .fp8e4m3) :
    out1_A_7 c i arg1 harg1 arg2 harg2 arg3 harg3 arg4 harg4 arg5 harg5 arg6 harg6 arg7 harg7 arg8 harg8 x0 x1 x2 x3 x4 = fun _ => scaleOf (x0 i11) := by
  unfold out1_A_7
  rw [View.read_writes_eq_canon _ _ _ (cover1_A_7 c i arg1 harg1 arg2 harg2 arg3 harg3 arg4 harg4 arg5 harg5 arg6 harg6 arg7 harg7 arg8 harg8 x0 x1 x2 x3 x4)]
  unfold kernelRun1_A
  dsimp only
  sl_unfold_words
  rw [View.canon_unit_zero hz1]
  simp only [View.readAt_eq_ld, harg1.read_unread, harg2.read_unread, harg3.read_unread, harg4.read_unread, harg5.read_unread, View.ld_unit_zero (S := S256x9088) hz, View.ld_unit_zero (S := S9088x2560) hz]
  rw [View.ld_unit_zero (S := S1x1) hz]
  rfl

end Cert.KernelIdeal.Hand

end
-- ==== Proof.KernelRead.lean ====
/- What each window of the kernel's two regions reads at a point: rows of the hidden array for the gate
   and for the other half, the whole weight array, and the two single words. -/
module

public import proofs.«01_k».proof.Proof.KernelBlocks
public import Idealize.ShloMosaic.Lib.ValueIdx

@[expose] public section

set_option maxRecDepth 16384

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- A [1, 1] array has one index. -/
theorem idx_S1x1 (x y : S1x1.Idx) : x = y := by
  funext a
  have h0 : (x 0).val < 1 := (x 0).isLt
  have h0' : (y 0).val < 1 := (y 0).isLt
  have h1 : (x 1).val < 1 := (x 1).isLt
  have h1' : (y 1).val < 1 := (y 1).isLt
  match a with
  | ⟨0, _⟩ => exact Fin.ext (by show (x 0).val = (y 0).val; omega)
  | ⟨1, _⟩ => exact Fin.ext (by show (x 1).val = (y 1).val; omega)

/-- A [1] array has one index. -/
theorem idx_S1 (x y : S1.Idx) : x = y := by
  funext a
  match a with
  | ⟨0, _⟩ =>
    have hx : (x 0).val < 1 := (x 0).isLt
    have hy : (y 0).val < 1 := (y 0).isLt
    exact Fin.ext (by show (x 0).val = (y 0).val; omega)

/-- The blocks of the first region, over its grid. -/
theorem index0 : ∀ t : Fin grid0.N, win0_0.index t 0 = t.val ∧ win0_0.index t 1 = 0 ∧ win0_1.index t 0 = t.val ∧ win0_1.index t 1 = 1 := by
  decide +kernel

/-- The blocks of the second region, over its grid. -/
theorem index1 : ∀ t : Fin grid1.N, win1_2.index t 0 = t.val ∧ win1_2.index t 1 = 0 ∧ win1_3.index t 0 = t.val ∧ win1_3.index t 1 = 1
    ∧ win1_4.index t 0 = 0 ∧ win1_4.index t 1 = 0 := by
  decide +kernel

theorem lt0 (t : Fin cfg0.N) : t.val < 48 := lt_of_lt_of_eq t.isLt N_0
theorem lt1 (t : Fin cfg1.N) : t.val < 12 := lt_of_lt_of_eq t.isLt N_1

/-- The first region's gate block at point `t`: rows from `64 t`. -/
theorem iblk0_0 (c : Dev nD) (t : Fin cfg0.N) (r : Fin 64) (k : Fin 9088) :
    (iblk0 V c 0 t : Vec F S64x9088 .bf16) (ix2 r k)
      = (V c main_v0 : Vec F S3072x18176 .bf16) (ix2 ⟨64 * t.val + r.val, by have := lt0 t; omega⟩ ⟨k.val, by omega⟩) := by
  unfold iblk0
  rw [View.read_apply]
  show V c main_v0 _ = V c main_v0 _
  congr 1
  funext a
  apply Fin.ext
  obtain ⟨e0, e1, -⟩ := index0 t
  match a with
  | ⟨0, _⟩ => show win0_0.index t 0 * 64 + 1 * r.val = 64 * t.val + r.val; rw [e0]; omega
  | ⟨1, _⟩ => show win0_0.index t 1 * 9088 + 1 * k.val = k.val; rw [e1]; omega

/-- The first region's other block at point `t`: the same rows, the columns from 9088. -/
theorem iblk0_1 (c : Dev nD) (t : Fin cfg0.N) (r : Fin 64) (k : Fin 9088) :
    (iblk0 V c 1 t : Vec F S64x9088 .bf16) (ix2 r k)
      = (V c main_v0 : Vec F S3072x18176 .bf16) (ix2 ⟨64 * t.val + r.val, by have := lt0 t; omega⟩ ⟨9088 + k.val, by omega⟩) := by
  unfold iblk0
  rw [View.read_apply]
  show V c main_v0 _ = V c main_v0 _
  congr 1
  funext a
  apply Fin.ext
  obtain ⟨-, -, e0, e1⟩ := index0 t
  match a with
  | ⟨0, _⟩ => show win0_1.index t 0 * 64 + 1 * r.val = 64 * t.val + r.val; rw [e0]; omega
  | ⟨1, _⟩ => show win0_1.index t 1 * 9088 + 1 * k.val = 9088 + k.val; rw [e1]; omega

/-- The second region's word for the greatest magnitude. -/
theorem iblk1_0 (c : Dev nD) (t : Fin cfg1.N) (i : S1x1.Idx) :
    (iblk1 V c 0 t : Vec F S1x1 .f32) i = (V c main_v1 : Vec F S1x1 .f32) i11 := by
  unfold iblk1
  rw [View.read_apply]
  exact congrArg (V c main_v1 : Vec F S1x1 .f32) (idx_S1x1 _ _)

/-- The second region's word for the weights' scale. -/
theorem iblk1_1 (c : Dev nD) (t : Fin cfg1.N) (i : S1.Idx) :
    (iblk1 V c 1 t : Vec F S1 .f32) i = (V c main_v2 : Vec F S1 .f32) i1 := by
  unfold iblk1
  rw [View.read_apply]
  exact congrArg (V c main_v2 : Vec F S1 .f32) (idx_S1 _ _)

/-- The second region's gate block at point `t`: rows from `256 t`. -/
theorem iblk1_2 (c : Dev nD) (t : Fin cfg1.N) (r : Fin 256) (k : Fin 9088) :
    (iblk1 V c 2 t : Vec F S256x9088 .bf16) (ix2 r k)
      = (V c main_v0 : Vec F S3072x18176 .bf16) (ix2 ⟨256 * t.val + r.val, by have := lt1 t; omega⟩ ⟨k.val, by omega⟩) := by
  unfold iblk1
  rw [View.read_apply]
  show V c main_v0 _ = V c main_v0 _
  congr 1
  funext a
  apply Fin.ext
  obtain ⟨e0, e1, -⟩ := index1 t
  match a with
  | ⟨0, _⟩ => show win1_2.index t 0 * 256 + 1 * r.val = 256 * t.val + r.val; rw [e0]; omega
  | ⟨1, _⟩ => show win1_2.index t 1 * 9088 + 1 * k.val = k.val; rw [e1]; omega

/-- The second region's other block at point `t`: the same rows, the columns from 9088. -/
theorem iblk1_3 (c : Dev nD) (t : Fin cfg1.N) (r : Fin 256) (k : Fin 9088) :
    (iblk1 V c 3 t : Vec F S256x9088 .bf16) (ix2 r k)
      = (V c main_v0 : Vec F S3072x18176 .bf16) (ix2 ⟨256 * t.val + r.val, by have := lt1 t; omega⟩ ⟨9088 + k.val, by omega⟩) := by
  unfold iblk1
  rw [View.read_apply]
  show V c main_v0 _ = V c main_v0 _
  congr 1
  funext a
  apply Fin.ext
  obtain ⟨-, -, e0, e1, -⟩ := index1 t
  match a with
  | ⟨0, _⟩ => show win1_3.index t 0 * 256 + 1 * r.val = 256 * t.val + r.val; rw [e0]; omega
  | ⟨1, _⟩ => show win1_3.index t 1 * 9088 + 1 * k.val = 9088 + k.val; rw [e1]; omega

/-- The second region's weights: the whole array. -/
theorem iblk1_4 (c : Dev nD) (t : Fin cfg1.N) (k : Fin 9088) (n : Fin 2560) :
    (iblk1 V c 4 t : Vec F S9088x2560 .fp8e4m3) (ix2 k n) = (V c main_arg1 : Vec F S9088x2560 .fp8e4m3) (ix2 k n) := by
  unfold iblk1
  rw [View.read_apply]
  show V c main_arg1 _ = V c main_arg1 _
  congr 1
  funext a
  apply Fin.ext
  obtain ⟨-, -, -, -, e0, e1⟩ := index1 t
  match a with
  | ⟨0, _⟩ => show win1_4.index t 0 * 9088 + 1 * k.val = k.val; rw [e0]; omega
  | ⟨1, _⟩ => show win1_4.index t 1 * 2560 + 1 * n.val = n.val; rw [e1]; omega

end Cert.KernelIdeal.Hand

end
-- ==== Proof.Exponent.lean ====
/- The quantiser's exponent: the kernel finds the exponent field of a number by eight comparisons with
   powers of two and builds the scale and its inverse as words; the reference takes the floor of a
   logarithm and raises two to it. For every number from 0 up to 2 ^ 120 the two give the same scale
   and the same inverse. -/
module

public import Idealize.ShloMosaic.PureOps.Ideal.Laws
public import Idealize.ShloMosaic.Lib.IdealHost

@[expose] public section

set_option maxRecDepth 16384

noncomputable section

namespace Cert.Swiglu

open Idealize.ShloMosaic

/-! ## The search for the exponent field -/

/-- One step of the search: keep `v`, or add `b` to it, as the comparison at `v + b` says. -/
def step (c : BitVec 32 → BitVec 1) (v b : BitVec 32) : BitVec 32 := Scalar.select (c (Scalar.addi v b)) v (Scalar.addi v b)

/-- The eight steps. -/
def search (c : BitVec 32 → BitVec 1) : BitVec 32 :=
  step c (step c (step c (step c (step c (step c (step c (Scalar.select (c 128#32) 0#32 128#32) 64#32) 32#32) 16#32) 8#32) 4#32) 2#32) 1#32

/-- A step asks at one place from 1 to 255, and leaves room for the next. -/
theorem step_congr (c c' : BitVec 32 → BitVec 1) (h : ∀ n : BitVec 32, 1 ≤ n.toNat → n.toNat ≤ 255 → c n = c' n)
    (v : BitVec 32) (b : BitVec 32) (hb : 1 ≤ b.toNat) (hv : v.toNat + 2 * b.toNat ≤ 256) :
    step c v b = step c' v b ∧ (step c v b).toNat + b.toNat ≤ 256 := by
  have hs : (Scalar.addi v b).toNat = v.toNat + b.toNat := by
    show (v + b).toNat = _
    rw [BitVec.toNat_add]; omega
  have hc := h (Scalar.addi v b) (by omega) (by omega)
  unfold step
  rw [hc]
  refine ⟨rfl, ?_⟩
  unfold Scalar.select
  split <;> omega

/-- So the search depends on the comparisons from 1 to 255 only. -/
theorem search_congr (c c' : BitVec 32 → BitVec 1) (h : ∀ n : BitVec 32, 1 ≤ n.toNat → n.toNat ≤ 255 → c n = c' n) :
    search c = search c' := by
  have h0 : Scalar.select (c 128#32) 0#32 128#32 = Scalar.select (c' 128#32) 0#32 128#32 := by
    rw [h 128#32 (by decide) (by decide)]
  have h0' : (Scalar.select (c 128#32) 0#32 128#32).toNat + 128 ≤ 256 := by
    unfold Scalar.select; split <;> decide
  obtain ⟨e1, b1⟩ := step_congr c c' h _ 64#32 (by decide) h0'
  obtain ⟨e2, b2⟩ := step_congr c c' h _ 32#32 (by decide) b1
  obtain ⟨e3, b3⟩ := step_congr c c' h _ 16#32 (by decide) b2
  obtain ⟨e4, b4⟩ := step_congr c c' h _ 8#32 (by decide) b3
  obtain ⟨e5, b5⟩ := step_congr c c' h _ 4#32 (by decide) b4
  obtain ⟨e6, b6⟩ := step_congr c c' h _ 2#32 (by decide) b5
  obtain ⟨e7, b7⟩ := step_congr c c' h _ 1#32 (by decide) b6
  unfold search
  rw [e7, e6, e5, e4, e3, e2, e1, h0]

/-- Where the comparison at `n` asks whether `E` is below `n`, the search finds `E`. -/
theorem search_lt : ∀ E : Fin 247, search (fun n => BitVec.ofBool (decide (E.val < n.toNat))) = BitVec.ofNat 32 E.val := by
  decide +kernel

/-! ## A word with an exponent field and nothing else is a power of two -/

/-- A word with its sign and fraction bits 0 and a field of 1 to 254 is a power of two. -/
theorem ieee_field (b : BitVec 32) (k : ℕ) (h1 : 1 ≤ k) (h2 : k ≤ 254) (k1 : b.extractLsb' 31 1 = 0#1)
    (k2 : (b.extractLsb' 23 8).toNat = k) (k3 : (b.extractLsb' 0 23).toNat = 0) :
    Ideal.ieee 8 23 b = (((2 : ℝ) ^ ((k : ℤ) - 127) : ℝ) : EReal) := by
  have e : Ideal.ieee 8 23 b = ((((1 : ℝ) * ((2 ^ 23 + 0 : ℕ) : ℝ)) * (2 : ℝ) ^ ((k : ℤ) - (2 ^ (8 - 1) - 1) - (23 : ℕ)) : ℝ) : EReal) := by
    unfold Ideal.ieee
    simp only [k1, k2, k3, show (8 - 1 : ℕ) = 7 from rfl, show (8 + 23 - 1 : ℕ) = 30 from rfl, show ((0#1 == 1#1) = true) = False by decide, if_false]
    rw [if_neg (by norm_num; omega), if_neg (by omega)]
  rw [e]
  congr 1
  rw [one_mul, Nat.cast_add, Nat.cast_zero, add_zero, Nat.cast_pow, Nat.cast_ofNat, ← zpow_natCast, ← zpow_add₀ (by norm_num)]
  congr 1
  push_cast
  ring

/-- The three fields of the word `k << 23`. -/
theorem fields_shl : ∀ k : Fin 255, (Scalar.shli (BitVec.ofNat 32 k.val) 23#32).extractLsb' 31 1 = 0#1
      ∧ ((Scalar.shli (BitVec.ofNat 32 k.val) 23#32).extractLsb' 23 8).toNat = k.val
      ∧ ((Scalar.shli (BitVec.ofNat 32 k.val) 23#32).extractLsb' 0 23).toNat = 0 := by decide +kernel

/-- The word `n << 23` is `2 ^ (n - 127)`, for a field of 1 to 254. -/
theorem ofBits_field (n : BitVec 32) (h1 : 1 ≤ n.toNat) (h2 : n.toNat ≤ 254) :
    Ideal.ofBits .f32 (Scalar.shli n 23#32) = (((2 : ℝ) ^ ((n.toNat : ℤ) - 127) : ℝ) : EReal) := by
  obtain ⟨k1, k2, k3⟩ := fields_shl ⟨n.toNat, by omega⟩
  dsimp only at k1 k2 k3
  rw [BitVec.ofNat_toNat, BitVec.setWidth_eq] at k1 k2 k3
  exact ieee_field _ _ h1 h2 k1 k2 k3

/-- The word `255 << 23` is infinity. -/
theorem ofBits_field_top : Ideal.ofBits .f32 (Scalar.shli 255#32 23#32) = ⊤ := by
  show Ideal.ieee 8 23 (Scalar.shli 255#32 23#32) = _
  have e : Scalar.shli 255#32 23#32 = 0x7F800000#32 := by decide
  rw [e]; simp [Ideal.ieee]

/-! ## The field of a number -/

/-- The exponent field of `q`: 0 below `2 ^ -126`, otherwise 127 more than the floor of the logarithm to base two. -/
def fieldOf (q : ℝ) : ℕ := if q < (2 : ℝ) ^ (-126 : ℤ) then 0 else (⌊Real.log q / Real.log 2⌋ + 127).toNat

theorem floor_lt_iff {q : ℝ} (hq : 0 < q) (k : ℤ) : ⌊Real.log q / Real.log 2⌋ < k ↔ q < (2 : ℝ) ^ k := by
  rw [Int.floor_lt, div_lt_iff₀ (Real.log_pos (by norm_num)), ← Real.log_zpow, Real.log_lt_log_iff hq (by positivity)]

theorem floor_ge {q : ℝ} (h : ¬ q < (2 : ℝ) ^ (-126 : ℤ)) : -126 ≤ ⌊Real.log q / Real.log 2⌋ := by
  have hq : 0 < q := lt_of_lt_of_le (by positivity) (not_lt.1 h)
  by_contra hc
  exact h ((floor_lt_iff hq (-126)).1 (by omega))

/-- `q` is below `2 ^ (n - 127)` exactly when its field is below `n`. -/
theorem lt_iff_fieldOf (q : ℝ) (n : ℕ) (h1 : 1 ≤ n) : q < (2 : ℝ) ^ ((n : ℤ) - 127) ↔ fieldOf q < n := by
  unfold fieldOf
  split
  · rename_i h
    refine ⟨fun _ => by omega, fun _ => lt_of_lt_of_le h (zpow_le_zpow_right₀ (by norm_num) (by omega))⟩
  · rename_i h
    have hq : 0 < q := lt_of_lt_of_le (by positivity) (not_lt.1 h)
    have := floor_ge h
    rw [← floor_lt_iff hq]
    omega

theorem fieldOf_lt {q : ℝ} (h : q < (2 : ℝ) ^ (120 : ℤ)) : fieldOf q < 247 :=
  (lt_iff_fieldOf q 247 (by norm_num)).1 (by norm_num at h ⊢; exact h)

/-- The kernel's search on `q`, up to `2 ^ 120`, finds its field. -/
theorem search_eq (q : ℝ) (h : q < (2 : ℝ) ^ (120 : ℤ)) :
    search (fun n => Ideal.cmp .olt (q : EReal) (Ideal.ofBits .f32 (Scalar.shli n 23#32))) = BitVec.ofNat 32 (fieldOf q) := by
  rw [← search_lt ⟨fieldOf q, fieldOf_lt h⟩]
  refine search_congr _ _ fun n h1 h2 => ?_
  show BitVec.ofBool (decide ((q : EReal) < Ideal.ofBits .f32 (Scalar.shli n 23#32))) = _
  congr 1
  rw [decide_eq_decide]
  rcases Nat.lt_or_ge n.toNat 255 with h3 | h3
  · rw [ofBits_field n h1 (by omega), EReal.coe_lt_coe_iff]
    exact lt_iff_fieldOf q _ h1
  · obtain rfl : n = 255#32 := BitVec.eq_of_toNat_eq (by rw [show (255#32).toNat = 255 from rfl]; omega)
    rw [ofBits_field_top]
    have := fieldOf_lt h
    exact ⟨fun _ => by show _ < 255; omega, fun _ => EReal.coe_lt_top q⟩

/-! ## The scale and its inverse -/

/-- The exponent the kernel makes of a field, as a word. -/
def expOf (f : BitVec 32) : BitVec 32 := Scalar.select (Scalar.cmpi .eq f 0#32) 0#32 (Scalar.subi f 126#32)

/-- The exponent the reference makes of `q`. -/
def refExp (q : EReal) : EReal :=
  Scalar.select (Ideal.cmp .olt q (Ideal.ofBits .f32 0x00800000#32)) (Ideal.ofBits .f32 0x00000000#32)
    (Ideal.liftRound Int.floor (Ideal.div (Ideal.log q) (Ideal.log (Ideal.ofBits .f32 0x40000000#32))) + Ideal.ofBits .f32 0x3F800000#32)

theorem ofBits_two : Ideal.ofBits .f32 0x40000000#32 = ((2 : ℝ) : EReal) := by
  have := ofBits_field 128#32 (by decide) (by decide)
  rw [show Scalar.shli 128#32 23#32 = 0x40000000#32 by decide] at this
  rw [this]; norm_num

theorem ofBits_min : Ideal.ofBits .f32 0x00800000#32 = (((2 : ℝ) ^ (-126 : ℤ) : ℝ) : EReal) := by
  have := ofBits_field 1#32 (by decide) (by decide)
  rw [show Scalar.shli 1#32 23#32 = 0x00800000#32 by decide] at this
  rw [this]; norm_num

/-- The reference's exponent of `q` is 126 less than the field, or 0 where the field is 0. -/
theorem refExp_eq (q : ℝ) : refExp q = (((if fieldOf q = 0 then 0 else (fieldOf q : ℤ) - 126 : ℤ) : ℝ) : EReal) := by
  unfold refExp
  rw [ofBits_min, ofBits_two, Ideal.ofBits_zero_f32, Ideal.ofBits_one_f32]
  by_cases h : q < (2 : ℝ) ^ (-126 : ℤ)
  · have hf : fieldOf q = 0 := by unfold fieldOf; rw [if_pos h]
    rw [hf]
    have hc : Ideal.cmp .olt (q : EReal) (((2 : ℝ) ^ (-126 : ℤ) : ℝ) : EReal) = 1#1 := by
      show BitVec.ofBool (decide _) = _
      rw [decide_eq_true (EReal.coe_lt_coe_iff.2 h)]; rfl
    rw [hc]; simp [Scalar.select]
  · have hq : 0 < q := lt_of_lt_of_le (by positivity) (not_lt.1 h)
    have hg := floor_ge h
    have hf : (fieldOf q : ℤ) = ⌊Real.log q / Real.log 2⌋ + 127 := by
      unfold fieldOf; rw [if_neg h]; omega
    have hc : Ideal.cmp .olt (q : EReal) (((2 : ℝ) ^ (-126 : ℤ) : ℝ) : EReal) = 0#1 := by
      show BitVec.ofBool (decide _) = _
      rw [decide_eq_false (fun h' => h (EReal.coe_lt_coe_iff.1 h'))]; rfl
    rw [hc, if_neg (by omega), Ideal.log_coe, if_neg (not_le.2 hq), Ideal.log_coe, if_neg (by norm_num),
      Ideal.div_coe (Real.log_pos (by norm_num)).ne', ← EReal.coe_mul, Ideal.liftRound_coe]
    show ((⌊Real.log q * (1 / Real.log 2)⌋ : ℝ) : EReal) + 1 = _
    rw [← EReal.coe_one, ← EReal.coe_add, mul_one_div, hf]
    congr 1
    push_cast; ring

theorem rpow_two_int (k : ℤ) : Real.rpow 2 (k : ℝ) = (2 : ℝ) ^ k := Real.rpow_intCast 2 k

/-- The kernel's scale is two to the reference's exponent. -/
theorem scale_eq (q : ℝ) (h : q < (2 : ℝ) ^ (120 : ℤ)) :
    Ideal.ofBits .f32 (Scalar.shli (Scalar.addi (expOf (BitVec.ofNat 32 (fieldOf q))) 127#32) 23#32) = Ideal.exp2 (refExp q) := by
  have hl := fieldOf_lt h
  rw [refExp_eq, Ideal.exp2_coe, rpow_two_int]
  have key : ∀ k : Fin 247, (Scalar.addi (expOf (BitVec.ofNat 32 k.val)) 127#32).toNat = if k.val = 0 then 127 else k.val + 1 := by
    decide +kernel
  have hk := key ⟨fieldOf q, hl⟩
  dsimp only at hk
  rw [ofBits_field _ (by rw [hk]; split <;> omega) (by rw [hk]; split <;> omega), hk]
  congr 2
  split <;> push_cast <;> omega

/-- The kernel's inverse scale is two to minus the reference's exponent. -/
theorem inv_eq (q : ℝ) (h : q < (2 : ℝ) ^ (120 : ℤ)) :
    Ideal.ofBits .f32 (Scalar.shli (Scalar.addi (Scalar.subi 0#32 (expOf (BitVec.ofNat 32 (fieldOf q)))) 127#32) 23#32)
      = Ideal.exp2 (Ideal.ofBits .f32 0x00000000#32 - refExp q) := by
  have hl := fieldOf_lt h
  rw [refExp_eq, Ideal.ofBits_zero_f32, zero_sub, ← EReal.coe_neg, ← Int.cast_neg, Ideal.exp2_coe, rpow_two_int]
  have key : ∀ k : Fin 247, (Scalar.addi (Scalar.subi 0#32 (expOf (BitVec.ofNat 32 k.val))) 127#32).toNat
      = if k.val = 0 then 127 else 253 - k.val := by
    decide +kernel
  have hk := key ⟨fieldOf q, hl⟩
  dsimp only at hk
  rw [ofBits_field _ (by rw [hk]; split <;> omega) (by rw [hk]; split <;> omega), hk]
  congr 2
  split <;> push_cast <;> omega

end Cert.Swiglu

end
-- ==== Proof.Spec.lean ====
/- What the program computes, at the extended reals, element by element: the gated value, the greatest
   magnitude, the power-of-two scale, the clipped code and the scaled product. -/
module

public import proofs.«01_k».proof.Proof.Exponent
public import Idealize.ShloMosaic.Lib.ValueIdx
public import Idealize.ShloMosaic.PureOps.Ideal.Laws
public import Idealize.ShloMosaic.Lib.Pipeline.Value

@[expose] public section

set_option maxRecDepth 16384

noncomputable section

namespace Cert.Swiglu

open Idealize.ShloMosaic Idealize.ShloMosaic.ValueIdx

/-- The gate, through silu, times the other half. -/
def sw (g u : EReal) : EReal := Ideal.div g (Ideal.ofBits .f32 0x3F800000#32 + Ideal.exp (Ideal.ofBits .f32 0x00000000#32 - g)) * u

/-- The magnitude of an extended real. -/
def mag (x : EReal) : EReal := max x (-x)

theorem exp_nonneg (x : EReal) : 0 ≤ Ideal.exp x := by
  induction x using EReal.rec with
  | bot => simp
  | top => simp
  | coe r => rw [Ideal.exp_coe]; exact_mod_cast (Real.exp_pos r).le

theorem one_add_exp_ne (x : EReal) : (1 : EReal) + Ideal.exp x ≠ 0 := by
  have h : (1 : EReal) ≤ 1 + Ideal.exp x := le_add_of_nonneg_right (exp_nonneg x)
  exact fun h0 => absurd (h0 ▸ h) (by norm_num)

/-- Silu as a quotient is the gate times its logistic. -/
theorem sw_logistic (g u : EReal) : g * Ideal.logistic g * u = sw g u := by
  unfold sw Ideal.logistic
  rw [Ideal.ofBits_zero_f32, Ideal.ofBits_one_f32, zero_sub]
  unfold Ideal.div
  rw [if_neg (one_add_exp_ne _), if_neg (one_add_exp_ne _), one_mul]

/-- Silu with the negation and the quotient written apart. -/
theorem sw_quotient (g u : EReal) : g * Ideal.div (Ideal.ofBits .f32 0x3F800000#32) (Ideal.ofBits .f32 0x3F800000#32 + Ideal.exp (-g)) * u = sw g u := by
  unfold sw
  rw [Ideal.ofBits_zero_f32, Ideal.ofBits_one_f32, zero_sub]
  unfold Ideal.div
  rw [if_neg (one_add_exp_ne _), if_neg (one_add_exp_ne _), one_mul]

theorem mag_nonneg (x : EReal) : 0 ≤ mag x := by
  unfold mag
  rcases le_total 0 x with h | h
  · exact le_max_of_le_left h
  · exact le_max_of_le_right (by simpa using EReal.neg_le_neg_iff.2 h)

/-- The gated value at row `r` and column `k` of the hidden array. -/
def xat (h : (⟨2, ![3072, 18176]⟩ : Shape).Idx → EReal) (r : Fin 3072) (k : Fin 9088) : EReal :=
  sw (h (ix2 r ⟨k.val, by omega⟩)) (h (ix2 r ⟨9088 + k.val, by omega⟩))

/-- The greatest magnitude of the gated values. -/
def amax (h : (⟨2, ![3072, 18176]⟩ : Shape).Idx → EReal) : EReal := ⨆ r : Fin 3072, ⨆ k : Fin 9088, mag (xat h r k)

theorem amax_le (h : (⟨2, ![3072, 18176]⟩ : Shape).Idx → EReal) (b : EReal) : amax h ≤ b ↔ ∀ r k, mag (xat h r k) ≤ b := by
  unfold amax; simp only [iSup_le_iff]

/-- What the scale is taken from: the greatest magnitude over 448. -/
def quo (h : (⟨2, ![3072, 18176]⟩ : Shape).Idx → EReal) : EReal := amax h * Ideal.ofBits .f32 0x3B124925#32

/-- The scale: two to the exponent. -/
def scale (h : (⟨2, ![3072, 18176]⟩ : Shape).Idx → EReal) : EReal := Ideal.exp2 (refExp (quo h))

/-- The code at row `r` and column `k`: the gated value over the scale, clipped to ±448. -/
def codeAt (h : (⟨2, ![3072, 18176]⟩ : Shape).Idx → EReal) (r : Fin 3072) (k : Fin 9088) : EReal :=
  min (Ideal.ofBits .f32 0x43E00000#32) (max (Ideal.ofBits .f32 0xC3E00000#32) (xat h r k * Ideal.exp2 (Ideal.ofBits .f32 0x00000000#32 - refExp (quo h))))

/-- The output at row `r` and column `n`: the codes times the weights, times the two scales. -/
def yat (h : (⟨2, ![3072, 18176]⟩ : Shape).Idx → EReal) (w : (⟨2, ![9088, 2560]⟩ : Shape).Idx → EReal) (ws : EReal) (r : Fin 3072) (n : Fin 2560) : EReal :=
  (∑ k : Fin 9088, codeAt h r k * w (ix2 k n)) * (scale h * ws)

theorem ofBits_neg_inf : Ideal.ofBits .f32 0xFF800000#32 = ⊥ := by
  show Ideal.ieee 8 23 0xFF800000#32 = _
  simp [Ideal.ieee]

/-- A maximum over every axis is below `b` exactly when every element is. -/
theorem maxRed_le {s t : Shape} {axes : List (Fin s.rank)} (src : FVec Ideal s .f32) (h : s.Reduces axes t) (ht : ∀ b, t.size b = 1)
    (hφ : FKind.Formats .f32) (hacc : (0xFF800000#32 : BitVec FTy.f32.bits) = FKind.maximumf.neutral .f32 hφ) (j : t.Idx) (b : EReal) :
    multiReduction .maximumf axes t src 0xFF800000#32 h hφ hacc j ≤ b ↔ ∀ i : s.Idx, src i ≤ b := by
  have e : multiReduction .maximumf axes t src 0xFF800000#32 h hφ hacc j = (Finset.univ.fold max ⊥ src : EReal) := by
    rw [multiReduction_maximumf_eq_fold, Finset.filter_true_of_mem fun i _ => funext fun b => Fin.ext (by
      have := (h.drop i b).isLt; have := (j b).isLt; have := ht b; omega), ← ofBits_neg_inf]
    rfl
  rw [e, Finset.fold_max_le]
  simp

/-- A shape cast asks the same of every element. -/
theorem forall_shapeCast {s t : Shape} {α : Type} (x : s.Idx → α) (h : s.ShapeCasts t) (p : α → Prop) :
    (∀ j : t.Idx, p (shapeCast t x h j)) ↔ ∀ i : s.Idx, p (x i) := by
  unfold shapeCast
  exact ⟨fun H i => by simpa using H ((Shape.reshapeEquiv h).symm i), fun H j => H _⟩

/-- The greatest finite number of the format. -/
theorem ofBits_max : Ideal.ofBits .f32 0x7F7FFFFF#32 = (((16777215 : ℝ) * (2 : ℝ) ^ (104 : ℤ) : ℝ) : EReal) := by
  show Ideal.ieee 8 23 0x7F7FFFFF#32 = _
  simp [Ideal.ieee]

/-- The constant 1 / 448, rounded. -/
theorem ofBits_quo : Ideal.ofBits .f32 0x3B124925#32 = (((9586981 : ℝ) * (2 : ℝ) ^ (-32 : ℤ) : ℝ) : EReal) := by
  show Ideal.ieee 8 23 0x3B124925#32 = _
  simp [Ideal.ieee]

/-- The quotient of a magnitude up to the greatest finite number is a real below `2 ^ 120`. -/
theorem quo_real (a : EReal) (h0 : 0 ≤ a) (h1 : a ≤ Ideal.ofBits .f32 0x7F7FFFFF#32) :
    ∃ q : ℝ, q < (2 : ℝ) ^ (120 : ℤ) ∧ a * Ideal.ofBits .f32 0x3B124925#32 = (q : EReal) := by
  rw [ofBits_max] at h1
  rw [ofBits_quo]
  induction a using EReal.rec with
  | bot => exact absurd h0 (by simp)
  | top => exact absurd h1 (not_le.2 (EReal.coe_lt_top _))
  | coe r =>
    have h1' : r ≤ (16777215 : ℝ) * (2 : ℝ) ^ (104 : ℤ) := by exact_mod_cast h1
    refine ⟨r * ((9586981 : ℝ) * (2 : ℝ) ^ (-32 : ℤ)), ?_, (EReal.coe_mul _ _).symm⟩
    calc r * ((9586981 : ℝ) * (2 : ℝ) ^ (-32 : ℤ)) ≤ ((16777215 : ℝ) * (2 : ℝ) ^ (104 : ℤ)) * ((9586981 : ℝ) * (2 : ℝ) ^ (-32 : ℤ)) := by gcongr
      _ < (2 : ℝ) ^ (120 : ℤ) := by norm_num

theorem amax_nonneg (h : (⟨2, ![3072, 18176]⟩ : Shape).Idx → EReal) : 0 ≤ amax h :=
  le_trans (mag_nonneg _) ((amax_le h _).1 le_rfl 0 0)

end Cert.Swiglu

end
-- ==== Proof.KernelMath.lean ====
/- The kernel's payloads at the extended reals: its search for the exponent gives the reference's
   power-of-two scale, and a block's values are the specification's. -/
module

public import proofs.«01_k».proof.Proof.KernelRead
public import proofs.«01_k».proof.Proof.Spec

@[expose] public section

set_option maxRecDepth 16384

noncomputable section

namespace Cert.KernelIdeal.Hand

open Cert.KernelIdeal Cert.KernelIdeal.Gen Cert.Swiglu Idealize.ShloMosaic Idealize.ShloMosaic.ValueIdx

/-- The field the kernel finds for the greatest magnitude `a`. -/
abbrev found (a : EReal) : BitVec 32 :=
  search (fun n => Ideal.cmp .olt (a * Ideal.ofBits .f32 0x3B124925#32) (Ideal.ofBits .f32 (Scalar.shli n 23#32)))

theorem scaleOf_search (a : Ideal .f32) : scaleOf (F := Ideal) a = Ideal.ofBits .f32 (Scalar.shli (Scalar.addi (expOf (found a)) 127#32) 23#32) := rfl

theorem loClip_search (a : Ideal .f32) (g u : Vec Ideal S256x9088 .bf16) (i : S256x9088.Idx) :
    loClip (F := Ideal) a g u i = max (Ideal.ofBits .f32 0xC3E00000#32)
      (sw (g i) (u i) * Ideal.ofBits .f32 (Scalar.shli (Scalar.addi (Scalar.subi 0#32 (expOf (found a))) 127#32) 23#32)) := by
  unfold loClip k1_pay11
  simp only [shapeCast_self]
  rfl

/-- The kernel's scale is the specification's, for a finite greatest magnitude. -/
theorem scaleOf_eq (a : EReal) (h0 : 0 ≤ a) (h1 : a ≤ Ideal.ofBits .f32 0x7F7FFFFF#32) :
    scaleOf (F := Ideal) a = Ideal.exp2 (refExp (a * Ideal.ofBits .f32 0x3B124925#32)) := by
  obtain ⟨q, hq, e⟩ := quo_real a h0 h1
  rw [scaleOf_search]
  unfold found
  rw [e, search_eq q hq, scale_eq q hq]

/-- The kernel's values clipped from below, for a finite greatest magnitude. -/
theorem loClip_eq (a : EReal) (h0 : 0 ≤ a) (h1 : a ≤ Ideal.ofBits .f32 0x7F7FFFFF#32) (g u : Vec Ideal S256x9088 .bf16) (i : S256x9088.Idx) :
    loClip (F := Ideal) a g u i = max (Ideal.ofBits .f32 0xC3E00000#32)
      (sw (g i) (u i) * Ideal.exp2 (Ideal.ofBits .f32 0x00000000#32 - refExp (a * Ideal.ofBits .f32 0x3B124925#32))) := by
  obtain ⟨q, hq, e⟩ := quo_real a h0 h1
  rw [loClip_search]
  unfold found
  rw [e, search_eq q hq, inv_eq q hq]

/-- A block's step of the greatest magnitude: the word held, or a greater magnitude of the block. -/
theorem pay1_le (g u : Vec Ideal S64x9088 .bf16) (v b : EReal) :
    k0_pay1 (F := Ideal) g u v ≤ b ↔ v ≤ b ∧ ∀ i : S64x9088.Idx, mag (sw (g i) (u i)) ≤ b := by
  unfold k0_pay1
  simp only [shapeCast_self]
  rw [show ∀ x y : EReal, (Scalar.maximumf (F := Ideal) (φ := .f32) x y ≤ b) = (max x y ≤ b) from fun _ _ => rfl, max_le_iff]
  refine and_congr_right fun _ => ?_
  unfold extractAt
  rw [show ∀ (x : FVec Ideal S1 .f32) (h : S1.ShapeCasts S1x1x1) (k : S1x1x1.Idx), shapeCast S1x1x1 x h k = x i1 from
    fun x h k => congrArg x (idx_S1 _ _)]
  refine (maxRed_le _ _ (by decide) _ _ _ _).trans ?_
  refine (forall_shapeCast _ _ (fun x : EReal => x ≤ b)).trans ?_
  rfl

/-- A block's codes times the weights, at a row and column of the block. -/
theorem pay2_apply (s c : EReal) (lo : FVec Ideal S256x9088 .f32) (w : Vec Ideal S9088x2560 .fp8e4m3) (ws : EReal) (r : Fin 256) (n : Fin 2560) :
    k1_pay2 (F := Ideal) s c lo w ws (ix2 r n) = (∑ k : Fin 9088, min c (lo (ix2 r k)) * w (ix2 k n)) * (s * ws) := by
  unfold k1_pay2
  show (matmul (F := Ideal) (φ₁ := .fp8e4m3) (φ₂ := .fp8e4m3) dot_S256x9088_S9088x2560_S256x2560_1_0_0_1_n_n none (k1_pay1 c lo) w (constant S256x2560 .f32 0x00000000#32) (ix2 r n) : EReal) * (s * ws) = _
  congr 1
  simp only [matmul]
  rw [Ideal.matmul_constant_zero_apply]
  have hr : dot_S256x9088_S9088x2560_S256x2560_1_0_0_1_n_n.contr.rank = 1 := rfl
  have hs : dot_S256x9088_S9088x2560_S256x2560_1_0_0_1_n_n.contr.size ⟨0, by omega⟩ = 9088 := rfl
  rw [← Equiv.sum_comp (contrEquiv1 dot_S256x9088_S9088x2560_S256x2560_1_0_0_1_n_n 9088 hr hs).symm]
  refine Finset.sum_congr rfl fun k _ => ?_
  have hv := contrEquiv1_symm_val dot_S256x9088_S9088x2560_S256x2560_1_0_0_1_n_n 9088 hr hs k
  have hl : dot_S256x9088_S9088x2560_S256x2560_1_0_0_1_n_n.lhsIdx (ix2 r n) ((contrEquiv1 dot_S256x9088_S9088x2560_S256x2560_1_0_0_1_n_n 9088 hr hs).symm k) = ix2 r k := by
    funext a
    match a with
    | ⟨0, _⟩ => rfl
    | ⟨1, _⟩ => exact Fin.ext hv
  have hw : dot_S256x9088_S9088x2560_S256x2560_1_0_0_1_n_n.rhsIdx (ix2 r n) ((contrEquiv1 dot_S256x9088_S9088x2560_S256x2560_1_0_0_1_n_n 9088 hr hs).symm k) = ix2 k n := by
    funext a
    match a with
    | ⟨0, _⟩ => exact Fin.ext hv
    | ⟨1, _⟩ => rfl
  rw [hl, hw]
  rfl

end Cert.KernelIdeal.Hand

end
-- ==== Proof.KernelAmax.lean ====
/- The kernel's first region at the extended reals: after its last point the one word it keeps is the
   greatest magnitude of the gated values. -/
module

public import proofs.«01_k».proof.Proof.KernelMath

@[expose] public section

set_option maxRecDepth 16384

noncomputable section

namespace Cert.KernelIdeal.Hand

open Cert.KernelIdeal Cert.KernelIdeal.Gen Cert.Swiglu Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The hidden array as a region finds it. -/
abbrev hid (c : Dev nD) : (⟨2, ![3072, 18176]⟩ : Shape).Idx → EReal := (V c main_v0 : Vec Ideal S3072x18176 .bf16)

/-- Every magnitude of block `t` is at most `b`. -/
def blockLe (c : Dev nD) (t : Fin cfg0.N) (b : EReal) : Prop :=
  ∀ (r : Fin 64) (k : Fin 9088), mag (xat (hid V c) ⟨64 * t.val + r.val, by have := lt0 t; omega⟩ k) ≤ b

/-- The block's payload read at the array. -/
theorem block_le (c : Dev nD) (t : Fin cfg0.N) (v b : EReal) :
    k0_pay1 (F := Ideal) (iblk0 V c 0 t) (iblk0 V c 1 t) v ≤ b ↔ v ≤ b ∧ blockLe V c t b := by
  rw [pay1_le]
  refine and_congr_right fun _ => ⟨fun H r k => ?_, fun H i => ?_⟩
  · have := H (ix2 r k)
    rw [iblk0_0, iblk0_1] at this
    exact this
  · obtain ⟨r, k, rfl⟩ : ∃ r k, i = ix2 r k := ⟨i 0, i 1, eq_ix2 i⟩
    rw [iblk0_0, iblk0_1]
    exact H r k

/-- After point `n` the word is at most `b` exactly when zero and every magnitude of the blocks so far are. -/
theorem outsAt0_le (c : Dev nD) (b : EReal) : ∀ (n : ℕ) (hn : n < cfg0.N),
    (outsAt0 V c n hn i11 : EReal) ≤ b ↔ 0 ≤ b ∧ ∀ t : Fin cfg0.N, t.val ≤ n → blockLe V c t b
  | 0, hn => by
    rw [show outsAt0 V c 0 hn = _ from (outsAt0_A V c ⟨0, hn⟩ rfl).trans (out0_A ..)]
    refine (block_le V c ⟨0, hn⟩ _ b).trans ?_
    rw [show (Scalar.ofBits (F := Ideal) .f32 0x00000000#32 : EReal) = 0 from Ideal.ofBits_zero_f32]
    refine and_congr_right fun _ => ⟨fun H t ht => ?_, fun H => H _ le_rfl⟩
    obtain rfl : t = ⟨0, hn⟩ := Fin.ext (by show t.val = 0; omega)
    exact H
  | n + 1, hn => by
    have hB : ¬(⟨n + 1, hn⟩ : Fin cfg0.N).val % 48 = 0 := by
      have := lt0 ⟨n + 1, hn⟩
      dsimp only at this ⊢; omega
    rw [show outsAt0 V c (n + 1) hn = _ from (outsAt0_B V c ⟨n + 1, hn⟩ hB).trans (out0_B ..)]
    refine (block_le V c ⟨n + 1, hn⟩ _ b).trans ?_
    rw [show (outsAt0 V c ((⟨n + 1, hn⟩ : Fin cfg0.N).val - 1) _ i11 : EReal) = outsAt0 V c n (Nat.lt_of_succ_lt hn) i11 from rfl,
      outsAt0_le c b n (Nat.lt_of_succ_lt hn), and_assoc]
    refine and_congr_right fun _ => ⟨fun H t ht => ?_, fun H => ⟨fun t ht => H t (by omega), H _ le_rfl⟩⟩
    by_cases h : t.val ≤ n
    · exact H.1 t h
    · obtain rfl : t = ⟨n + 1, hn⟩ := Fin.ext (by show t.val = n + 1; omega)
      exact H.2

/-- The last point. -/
abbrev last0 : Fin cfg0.N := ⟨47, by show 47 < grid0.N; rw [N_0]; omega⟩

/-- After the last point the word is the greatest magnitude. -/
theorem outsAt0_last (c : Dev nD) : (outsAt0 V c 47 last0.isLt i11 : EReal) = amax (hid V c) := by
  refine eq_of_forall_ge_iff fun b => ?_
  rw [outsAt0_le, amax_le]
  constructor
  · rintro ⟨-, H⟩ r k
    have hr := r.isLt
    have := H ⟨r.val / 64, by show _ < grid0.N; rw [N_0]; omega⟩ (by dsimp only; omega) ⟨r.val % 64, by omega⟩ k
    have e : (⟨64 * (r.val / 64) + r.val % 64, by omega⟩ : Fin 3072) = r := Fin.ext (by dsimp only; omega)
    dsimp only at this
    rw [e] at this
    exact this
  · exact fun H => ⟨le_trans (mag_nonneg _) (H 0 0), fun t _ r k => H _ k⟩

/-- The word's array after the region. -/
abbrev word (c : Dev nD) : Vec Ideal S1x1 .f32 := fun _ => amax (hid V c)

theorem flushed0 (c : Dev nD) (t : Fin cfg0.N) (hf : (cfg0.win 2).flush t = true) :
    (dat0 V c).flushed 2 t = ((cfg0.win 2).blk t).view.read (Elt Ideal) (word V c) := by
  have h3 : t.val = 47 := by have := (flush0_2 t).mp hf; have := lt0 t; omega
  obtain rfl : t = last0 := Fin.ext h3
  show (cfg0.win 2).cut (grid0.coords last0) ((dat0 V c).after 2 last0) = _
  rw [after0_2]
  funext i
  rw [View.read_apply]
  refine Eq.trans ?_ (outsAt0_last V c)
  exact congrArg (outsAt0 V c 47 last0.isLt) (idx_S1x1 _ _)

theorem cover0 (i : S1x1.Idx) : ∃ t : Fin cfg0.N, (cfg0.win 2).flush t = true ∧ i ∈ ((cfg0.win 2).blk t).view.set := by
  refine ⟨last0, (flush0_2 _).mpr rfl, ?_⟩
  show i ∈ ((View.whole main_v1).slice (win0_2.rect last0)).set
  rw [View.set_slice_whole, Rect.mem_set_unit]
  intro a
  have h0 : (i 0 : Nat) < 1 := (i 0).isLt
  have h1 : (i 1 : Nat) < 1 := (i 1).isLt
  match a with
  | ⟨0, _⟩ => show win0_2.index last0 0 * win0_2.size 0 ≤ (i 0 : Nat) ∧ (i 0 : Nat) < win0_2.index last0 0 * win0_2.size 0 + win0_2.xsize (grid0.coords last0) 0
              rw [show win0_2.index last0 0 * win0_2.size 0 = 0 from by decide +kernel, show win0_2.xsize (grid0.coords last0) 0 = 1 from by decide +kernel]; omega
  | ⟨1, _⟩ => show win0_2.index last0 1 * win0_2.size 1 ≤ (i 1 : Nat) ∧ (i 1 : Nat) < win0_2.index last0 1 * win0_2.size 1 + win0_2.xsize (grid0.coords last0) 1
              rw [show win0_2.index last0 1 * win0_2.size 1 = 0 from by decide +kernel, show win0_2.xsize (grid0.coords last0) 1 = 1 from by decide +kernel]; omega

/-- The first region leaves the greatest magnitude in its word. -/
theorem final0 (c : Dev nD) : (dat0 V c).arrAt 2 cfg0.N = word V c :=
  (dat0 V c).arrAt_eq_of_cover 2 (word V c) (flushed0 V c) cover0

end Cert.KernelIdeal.Hand

end
-- ==== Proof.KernelOut.lean ====
/- The kernel's second region at the extended reals: its three output arrays, when the word it is given is the
   greatest magnitude of the gated values and is finite. -/
module

public import proofs.«01_k».proof.Proof.KernelAmax

@[expose] public section

set_option maxRecDepth 16384

noncomputable section

namespace Cert.KernelIdeal.Hand

open Cert.KernelIdeal Cert.KernelIdeal.Gen Cert.Swiglu Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- The weights and their scale as the region finds them. -/
abbrev wts : (⟨2, ![9088, 2560]⟩ : Shape).Idx → EReal := (V c main_arg1 : Vec Ideal S9088x2560 .fp8e4m3)
abbrev wsc : EReal := (V c main_v2 : Vec Ideal S1 .f32) i1

/-- The three output arrays. -/
abbrev outY : Vec Ideal S3072x2560 .bf16 := fun i => yat (hid V c) (wts V c) (wsc V c) (i 0) (i 1)
abbrev outC : Vec Ideal S3072x9088 .fp8e4m3 := fun i => codeAt (hid V c) (i 0) (i 1)
abbrev outS : Vec Ideal S1 .f32 := fun _ => scale (hid V c)

/-- The region's word is the greatest magnitude, and is finite. -/
structure Ready : Prop where
  word : ((V c main_v1 : Vec Ideal S1x1 .f32) i11 : EReal) = amax (hid V c)
  le : amax (hid V c) ≤ Ideal.ofBits .f32 0x7F7FFFFF#32

variable {V c}

/-- A block's codes. -/
theorem block_code (H : Ready V c) (t : Fin cfg1.N) (r : Fin 256) (k : Fin 9088) :
    (min (Ideal.ofBits .f32 0x43E00000#32) (loClip (F := Ideal) ((iblk1 V c 0 t : Vec Ideal S1x1 .f32) i11) (iblk1 V c 2 t) (iblk1 V c 3 t) (ix2 r k)) : EReal)
      = codeAt (hid V c) ⟨256 * t.val + r.val, by have := lt1 t; omega⟩ k := by
  rw [iblk1_0, H.word, loClip_eq _ (amax_nonneg _) H.le, iblk1_2, iblk1_3]
  rfl

theorem block_scale (H : Ready V c) (t : Fin cfg1.N) :
    (scaleOf (F := Ideal) ((iblk1 V c 0 t : Vec Ideal S1x1 .f32) i11) : EReal) = scale (hid V c) := by
  rw [iblk1_0, H.word, scaleOf_eq _ (amax_nonneg _) H.le]
  rfl

/-- A block's outputs. -/
theorem block_y (H : Ready V c) (t : Fin cfg1.N) (r : Fin 256) (n : Fin 2560) :
    k1_pay2 (F := Ideal) (scaleOf (F := Ideal) ((iblk1 V c 0 t : Vec Ideal S1x1 .f32) i11)) (Scalar.ofBits .f32 0x43E00000#32)
      (loClip (F := Ideal) ((iblk1 V c 0 t : Vec Ideal S1x1 .f32) i11) (iblk1 V c 2 t) (iblk1 V c 3 t)) (iblk1 V c 4 t) ((iblk1 V c 1 t : Vec Ideal S1 .f32) i1) (ix2 r n)
      = yat (hid V c) (wts V c) (wsc V c) ⟨256 * t.val + r.val, by have := lt1 t; omega⟩ n := by
  refine (pay2_apply _ _ _ _ _ r n).trans ?_
  rw [block_scale H, iblk1_1]
  unfold yat
  refine congrArg (fun x : EReal => x * (scale (hid V c) * wsc V c)) (Finset.sum_congr rfl fun k _ => ?_)
  rw [iblk1_4]
  exact congrArg (fun x : EReal => x * wts V c (ix2 k n)) (block_code H t r k)

/-! ## The blocks written back -/

theorem index1' : ∀ t : Fin grid1.N, win1_5.index t 0 = t.val ∧ win1_5.index t 1 = 0 ∧ win1_6.index t 0 = t.val ∧ win1_6.index t 1 = 0 := by
  decide +kernel

theorem flushed1_6 (H : Ready V c) (t : Fin cfg1.N) :
    (dat1 V c).flushed 6 t = ((cfg1.win 6).blk t).view.read (Elt Ideal) (outC V c) := by
  show (cfg1.win 6).cut (grid1.coords t) ((dat1 V c).after 6 t) = _
  rw [after1_6]
  unfold outsAt1
  dsimp only
  rw [out1_6]
  funext i
  obtain ⟨r, k, rfl⟩ : ∃ (r : Fin 256) (k : Fin 9088), i = ix2 r k := ⟨i 0, i 1, eq_ix2 i⟩
  rw [View.read_apply]
  refine (block_code H t r k).trans ?_
  obtain ⟨-, -, e0, e1⟩ := index1' t
  show codeAt (hid V c) _ _ = codeAt (hid V c) _ _
  congr 1
  · apply Fin.ext
    show 256 * t.val + r.val = win1_6.index t 0 * 256 + 1 * r.val; rw [e0]; omega
  · apply Fin.ext
    show k.val = win1_6.index t 1 * 9088 + 1 * k.val; rw [e1]; omega

theorem flushed1_5 (H : Ready V c) (t : Fin cfg1.N) :
    (dat1 V c).flushed 5 t = ((cfg1.win 5).blk t).view.read (Elt Ideal) (outY V c) := by
  show (cfg1.win 5).cut (grid1.coords t) ((dat1 V c).after 5 t) = _
  rw [after1_5]
  unfold outsAt1
  dsimp only
  rw [out1_5]
  funext i
  obtain ⟨r, n, rfl⟩ : ∃ (r : Fin 256) (n : Fin 2560), i = ix2 r n := ⟨i 0, i 1, eq_ix2 i⟩
  rw [View.read_apply]
  refine Eq.trans (block_y H t r n) ?_
  obtain ⟨e0, e1, -⟩ := index1' t
  show yat (hid V c) (wts V c) (wsc V c) _ _ = yat (hid V c) (wts V c) (wsc V c) _ _
  congr 1
  · apply Fin.ext
    show 256 * t.val + r.val = win1_5.index t 0 * 256 + 1 * r.val; rw [e0]; omega
  · apply Fin.ext
    show n.val = win1_5.index t 1 * 2560 + 1 * n.val; rw [e1]; omega

theorem flushed1_7 (H : Ready V c) (t : Fin cfg1.N) :
    (dat1 V c).flushed 7 t = ((cfg1.win 7).blk t).view.read (Elt Ideal) (outS V c) := by
  show (cfg1.win 7).cut (grid1.coords t) ((dat1 V c).after 7 t) = _
  rw [after1_7]
  unfold outsAt1
  dsimp only
  rw [out1_7]
  funext i
  rw [View.read_apply]
  exact block_scale H t

/-! ## The blocks cover their arrays -/

theorem box1_5 : ∀ t : Fin grid1.N, win1_5.index t 0 * win1_5.size 0 = t.val * 256 ∧ win1_5.xsize (grid1.coords t) 0 = 256
      ∧ win1_5.index t 1 * win1_5.size 1 = 0 ∧ win1_5.xsize (grid1.coords t) 1 = 2560 := by decide +kernel
theorem box1_6 : ∀ t : Fin grid1.N, win1_6.index t 0 * win1_6.size 0 = t.val * 256 ∧ win1_6.xsize (grid1.coords t) 0 = 256
      ∧ win1_6.index t 1 * win1_6.size 1 = 0 ∧ win1_6.xsize (grid1.coords t) 1 = 9088 := by decide +kernel

/-- The point whose block holds row `r`. -/
abbrev pt (r : ℕ) (h : r < 3072) : Fin cfg1.N := ⟨r / 256, by show _ < grid1.N; rw [N_1]; omega⟩

theorem cover1_5 (i : S3072x2560.Idx) : ∃ t : Fin cfg1.N, (cfg1.win 5).flush t = true ∧ i ∈ ((cfg1.win 5).blk t).view.set := by
  have h0 : (i 0 : Nat) < 3072 := (i 0).isLt
  have h1 : (i 1 : Nat) < 2560 := (i 1).isLt
  refine ⟨pt (i 0) h0, flush1_5 _, ?_⟩
  show i ∈ ((View.whole main_v3_0).slice (win1_5.rect (pt (i 0) h0))).set
  rw [View.set_slice_whole, Rect.mem_set_unit]
  intro a
  obtain ⟨e0, e1, e2, e3⟩ := box1_5 (pt (i 0) h0)
  match a with
  | ⟨0, _⟩ => show win1_5.index (pt (i 0) h0) 0 * win1_5.size 0 ≤ (i 0 : Nat) ∧ (i 0 : Nat) < win1_5.index (pt (i 0) h0) 0 * win1_5.size 0 + win1_5.xsize (grid1.coords (pt (i 0) h0)) 0
              rw [e0, e1]; dsimp only; omega
  | ⟨1, _⟩ => show win1_5.index (pt (i 0) h0) 1 * win1_5.size 1 ≤ (i 1 : Nat) ∧ (i 1 : Nat) < win1_5.index (pt (i 0) h0) 1 * win1_5.size 1 + win1_5.xsize (grid1.coords (pt (i 0) h0)) 1
              rw [e2, e3]; omega

theorem cover1_6 (i : S3072x9088.Idx) : ∃ t : Fin cfg1.N, (cfg1.win 6).flush t = true ∧ i ∈ ((cfg1.win 6).blk t).view.set := by
  have h0 : (i 0 : Nat) < 3072 := (i 0).isLt
  have h1 : (i 1 : Nat) < 9088 := (i 1).isLt
  refine ⟨pt (i 0) h0, flush1_6 _, ?_⟩
  show i ∈ ((View.whole main_v3_1).slice (win1_6.rect (pt (i 0) h0))).set
  rw [View.set_slice_whole, Rect.mem_set_unit]
  intro a
  obtain ⟨e0, e1, e2, e3⟩ := box1_6 (pt (i 0) h0)
  match a with
  | ⟨0, _⟩ => show win1_6.index (pt (i 0) h0) 0 * win1_6.size 0 ≤ (i 0 : Nat) ∧ (i 0 : Nat) < win1_6.index (pt (i 0) h0) 0 * win1_6.size 0 + win1_6.xsize (grid1.coords (pt (i 0) h0)) 0
              rw [e0, e1]; dsimp only; omega
  | ⟨1, _⟩ => show win1_6.index (pt (i 0) h0) 1 * win1_6.size 1 ≤ (i 1 : Nat) ∧ (i 1 : Nat) < win1_6.index (pt (i 0) h0) 1 * win1_6.size 1 + win1_6.xsize (grid1.coords (pt (i 0) h0)) 1
              rw [e2, e3]; omega

/-- The last point. -/
abbrev last1 : Fin cfg1.N := ⟨11, by show 11 < grid1.N; rw [N_1]; omega⟩

theorem cover1_7 (i : S1.Idx) : ∃ t : Fin cfg1.N, (cfg1.win 7).flush t = true ∧ i ∈ ((cfg1.win 7).blk t).view.set := by
  refine ⟨last1, (flush1_7 _).mpr rfl, ?_⟩
  show i ∈ ((View.whole main_v3_2).slice (win1_7.rect last1)).set
  rw [View.set_slice_whole, Rect.mem_set_unit]
  intro a
  have h0 : (i 0 : Nat) < 1 := (i 0).isLt
  match a with
  | ⟨0, _⟩ => show win1_7.index last1 0 * win1_7.size 0 ≤ (i 0 : Nat) ∧ (i 0 : Nat) < win1_7.index last1 0 * win1_7.size 0 + win1_7.xsize (grid1.coords last1) 0
              rw [show win1_7.index last1 0 * win1_7.size 0 = 0 from by decide +kernel, show win1_7.xsize (grid1.coords last1) 0 = 1 from by decide +kernel]; omega

theorem final1_5 (H : Ready V c) : (dat1 V c).arrAt 5 cfg1.N = outY V c :=
  (dat1 V c).arrAt_eq_of_cover 5 (outY V c) (fun t _ => flushed1_5 H t) cover1_5
theorem final1_6 (H : Ready V c) : (dat1 V c).arrAt 6 cfg1.N = outC V c :=
  (dat1 V c).arrAt_eq_of_cover 6 (outC V c) (fun t _ => flushed1_6 H t) cover1_6
theorem final1_7 (H : Ready V c) : (dat1 V c).arrAt 7 cfg1.N = outS V c :=
  (dat1 V c).arrAt_eq_of_cover 7 (outS V c) (fun t _ => flushed1_7 H t) cover1_7

end Cert.KernelIdeal.Hand

end
-- ==== Proof.KernelResult.lean ====
/- The kernel's three result arrays at the extended reals, from its arguments, where the gated values are
   finite. -/
module

public import proofs.«01_k».proof.Proof.KernelRun
public import proofs.«01_k».proof.Proof.KernelOut
public import Idealize.ShloMosaic.Lib.StableHlo.Run

@[expose] public section

set_option maxRecDepth 16384

noncomputable section

namespace Cert.KernelIdeal.Hand

open Cert.KernelIdeal Cert.KernelIdeal.Gen Cert.Swiglu Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The hidden array as rows and columns. -/
abbrev rows (h : Vec Ideal S1x3072x18176 .bf16) : (⟨2, ![3072, 18176]⟩ : Shape).Idx → EReal :=
  shapeCast S3072x18176 h shapeCasts_S1x3072x18176_S3072x18176

theorem V1_v0 : (V1 m ρ c main_v0 : Vec Ideal S3072x18176 .bf16) = rows (m ((c : Thread nD τ).loc main_arg0)) := by
  show StableHlo.after hostOps0 (W0 m ρ c) (Proc.devRef .tc main_v0) = _
  rw [StableHlo.after_cons, StableHlo.after_nil]
  rfl

theorem V3_v0 : (V3 m ρ c main_v0 : Vec Ideal S3072x18176 .bf16) = rows (m ((c : Thread nD τ).loc main_arg0)) :=
  ((W3_of m ρ c main_v0 (by decide)).trans (W2_of m ρ c main_v0 (by decide))).trans (V1_v0 m ρ c)

theorem V3_v1 : (V3 m ρ c main_v1 : Vec Ideal S1x1 .f32) = fun _ => amax (rows (m ((c : Thread nD τ).loc main_arg0))) := by
  refine ((W3_of m ρ c main_v1 (by decide)).trans ((W2_arr m ρ c 2).trans (final0 (V1 m ρ) c))).trans ?_
  exact congrArg (fun (h : (⟨2, ![3072, 18176]⟩ : Shape).Idx → EReal) (_ : S1x1.Idx) => amax h) (V1_v0 m ρ c)

theorem V3_v2 : (V3 m ρ c main_v2 : Vec Ideal S1 .f32) i1 = (m ((c : Thread nD τ).loc main_arg2) : Vec Ideal S_ .f32) ix0 := by
  show StableHlo.after hostOps1 (W2 m ρ c) (Proc.devRef .tc main_v2) i1 = _
  rw [StableHlo.after_cons, StableHlo.after_nil]
  show (W2 m ρ c (Proc.devRef .tc main_arg2) : Vec Ideal S_ .f32) _ = _
  rw [W2_args m ρ c main_arg2 (by decide)]
  exact congrArg (m ((c : Thread nD τ).loc main_arg2) : Vec Ideal S_ .f32) (eq_ix0 _)

theorem V3_arg1 : (V3 m ρ c main_arg1 : Vec Ideal S9088x2560 .fp8e4m3) = m ((c : Thread nD τ).loc main_arg1) :=
  W3_args m ρ c main_arg1 (by decide)

theorem ready (hf : amax (rows (m ((c : Thread nD τ).loc main_arg0))) ≤ Ideal.ofBits .f32 0x7F7FFFFF#32) : Ready (V3 m ρ) c where
  word := by
    rw [V3_v1]
    show _ = amax (V3 m ρ c main_v0 : Vec Ideal S3072x18176 .bf16)
    rw [V3_v0]
  le := by
    show amax (V3 m ρ c main_v0 : Vec Ideal S3072x18176 .bf16) ≤ _
    rw [V3_v0]; exact hf

/-- The result arrays, from the arguments. -/
abbrev resY : Vec Ideal S3072x2560 .bf16 := fun i => yat (rows (m ((c : Thread nD τ).loc main_arg0)))
  (m ((c : Thread nD τ).loc main_arg1) : Vec Ideal S9088x2560 .fp8e4m3) ((m ((c : Thread nD τ).loc main_arg2) : Vec Ideal S_ .f32) ix0) (i 0) (i 1)
abbrev resC : Vec Ideal S3072x9088 .fp8e4m3 := fun i => codeAt (rows (m ((c : Thread nD τ).loc main_arg0))) (i 0) (i 1)
abbrev resS : Vec Ideal S1 .f32 := fun _ => scale (rows (m ((c : Thread nD τ).loc main_arg0)))

/-- The kernel's run: the three results, the arguments unchanged. -/
theorem run_results (hf : ∀ c : Dev nD, amax (rows (m ((c : Thread nD τ).loc main_arg0))) ≤ Ideal.ofBits .f32 0x7F7FFFFF#32) :
    θ_run defs (onTc (τ := τ) (main (F := Ideal))) ⟨m, fun _ => 0, ρ⟩ fun r => ∀ c : Dev nD,
      r.2.mem ((c : Thread nD τ).loc main_v3_0) = resY m c
      ∧ r.2.mem ((c : Thread nD τ).loc main_v3_1) = resC m c
      ∧ r.2.mem ((c : Thread nD τ).loc main_v3_2) = resS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ?_) (run (F := Ideal) m ρ)
  have hR := ready m ρ c (hf c)
  have e0 : hid (V3 m ρ) c = rows (m ((c : Thread nD τ).loc main_arg0)) := V3_v0 m ρ c
  have e1 : wts (V3 m ρ) c = (m ((c : Thread nD τ).loc main_arg1) : Vec Ideal S9088x2560 .fp8e4m3) := V3_arg1 m ρ c
  have e2 : wsc (V3 m ρ) c = (m ((c : Thread nD τ).loc main_arg2) : Vec Ideal S_ .f32) ix0 := V3_v2 m ρ c
  refine ⟨?_, ?_, ?_, (h c _ (mem_uc main_arg0 (by decide))).trans (W4_main_arg0 m ρ c), (h c _ (mem_uc main_arg1 (by decide))).trans (W4_main_arg1 m ρ c),
    (h c _ (mem_uc main_arg2 (by decide))).trans (W4_main_arg2 m ρ c)⟩
  · refine (h c _ (mem_uc main_v3_0 (by decide))).trans ((W4_arr m ρ c 5).trans ((final1_5 hR).trans ?_))
    unfold outY resY
    rw [e0, e1, e2]
  · refine (h c _ (mem_uc main_v3_1 (by decide))).trans ((W4_arr m ρ c 6).trans ((final1_6 hR).trans ?_))
    unfold outC resC
    rw [e0]
  · refine (h c _ (mem_uc main_v3_2 (by decide))).trans ((W4_arr m ρ c 7).trans ((final1_7 hR).trans ?_))
    unfold outS resS
    rw [e0]

end Cert.KernelIdeal.Hand

end
-- ==== Proof.ReferenceBlocks.lean ====
/- The reference's one point: its three payloads of the whole arrays it loads. -/
module

public import proofs.«01_k».proof.Proof.Gen.ReferenceIdeal.Value
public import Idealize.ShloMosaic.Lib.Pipeline.Value
public import Idealize.ShloMosaic.Lib.Tactic

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- The one index of a [1] array. -/
abbrev i1 : S1.Idx := Shape.Idx.first (Nat.lt_of_lt_of_eq Nat.one_pos numel1_S1.symm)

/-- The output's buffer. -/
theorem out_3 (c : Dev nD) (arg0 : Memref sig .tc .vmem S3072x18176 .bf16) (harg0 : arg0.IsWhole) (arg1 : Memref sig .tc .vmem S9088x2560 .fp8e4m3) (harg1 : arg1.IsWhole) (arg2 : Memref sig .tc .smem S1 .f32) (harg2 : arg2.IsWhole)
    (arg3 : Memref sig .tc .vmem S3072x2560 .bf16) (harg3 : arg3.IsWhole) (arg4 : Memref sig .tc .vmem S3072x9088 .fp8e4m3) (harg4 : arg4.IsWhole) (arg5 : Memref sig .tc .smem S1 .f32) (harg5 : arg5.IsWhole)
    (x0 : Vec F S3072x18176 .bf16) (x1 : Vec F S9088x2560 .fp8e4m3) (x2 : Vec F S1 .f32) :
    out0_A_3 c arg0 harg0 arg1 harg1 arg2 harg2 arg3 harg3 arg4 harg4 arg5 harg5 x0 x1 x2 = k0_pay5 x0 x1 (x2 i1) := by
  unfold out0_A_3
  rw [View.read_writes_eq_canon _ _ _ (cover0_A_3 c arg0 harg0 arg1 harg1 arg2 harg2 arg3 harg3 arg4 harg4 arg5 harg5 x0 x1 x2)]
  unfold kernelRun0_A
  dsimp only
  sl_unfold_words
  rw [View.canon_unit_zero hz]
  simp only [View.readAt_eq_ld, harg0.read_unread, harg1.read_unread, harg2.read_unread, View.ld_unit_zero (S := S3072x18176) hz, View.ld_unit_zero (S := S9088x2560) hz]
  rw [View.ld_unit_zero (S := S1) hz1]

/-- The codes' buffer. -/
theorem out_4 (c : Dev nD) (arg0 : Memref sig .tc .vmem S3072x18176 .bf16) (harg0 : arg0.IsWhole) (arg1 : Memref sig .tc .vmem S9088x2560 .fp8e4m3) (harg1 : arg1.IsWhole) (arg2 : Memref sig .tc .smem S1 .f32) (harg2 : arg2.IsWhole)
    (arg3 : Memref sig .tc .vmem S3072x2560 .bf16) (harg3 : arg3.IsWhole) (arg4 : Memref sig .tc .vmem S3072x9088 .fp8e4m3) (harg4 : arg4.IsWhole) (arg5 : Memref sig .tc .smem S1 .f32) (harg5 : arg5.IsWhole)
    (x0 : Vec F S3072x18176 .bf16) (x1 : Vec F S9088x2560 .fp8e4m3) (x2 : Vec F S1 .f32) :
    out0_A_4 c arg0 harg0 arg1 harg1 arg2 harg2 arg3 harg3 arg4 harg4 arg5 harg5 x0 x1 x2 = k0_pay4 x0 := by
  unfold out0_A_4
  rw [View.read_writes_eq_canon _ _ _ (cover0_A_4 c arg0 harg0 arg1 harg1 arg2 harg2 arg3 harg3 arg4 harg4 arg5 harg5 x0 x1 x2)]
  unfold kernelRun0_A
  dsimp only
  sl_unfold_words
  rw [View.canon_unit_zero hz]
  simp only [View.readAt_eq_ld, harg0.read_unread, harg1.read_unread, harg2.read_unread, View.ld_unit_zero (S := S3072x18176) hz, View.ld_unit_zero (S := S9088x2560) hz]

/-- The scale's word. -/
theorem out_5 (c : Dev nD) (arg0 : Memref sig .tc .vmem S3072x18176 .bf16) (harg0 : arg0.IsWhole) (arg1 : Memref sig .tc .vmem S9088x2560 .fp8e4m3) (harg1 : arg1.IsWhole) (arg2 : Memref sig .tc .smem S1 .f32) (harg2 : arg2.IsWhole)
    (arg3 : Memref sig .tc .vmem S3072x2560 .bf16) (harg3 : arg3.IsWhole) (arg4 : Memref sig .tc .vmem S3072x9088 .fp8e4m3) (harg4 : arg4.IsWhole) (arg5 : Memref sig .tc .smem S1 .f32) (harg5 : arg5.IsWhole)
    (x0 : Vec F S3072x18176 .bf16) (x1 : Vec F S9088x2560 .fp8e4m3) (x2 : Vec F S1 .f32) :
    out0_A_5 c arg0 harg0 arg1 harg1 arg2 harg2 arg3 harg3 arg4 harg4 arg5 harg5 x0 x1 x2 = fun _ => k0_pay3 x0 := by
  unfold out0_A_5
  rw [View.read_writes_eq_canon _ _ _ (cover0_A_5 c arg0 harg0 arg1 harg1 arg2 harg2 arg3 harg3 arg4 harg4 arg5 harg5 x0 x1 x2)]
  unfold kernelRun0_A
  dsimp only
  sl_unfold_words
  rw [View.canon_unit_zero hz1]
  simp only [View.readAt_eq_ld, harg0.read_unread, harg1.read_unread, harg2.read_unread, View.ld_unit_zero (S := S3072x18176) hz, View.ld_unit_zero (S := S9088x2560) hz]
  rfl

end Cert.ReferenceIdeal.Hand

end
-- ==== Proof.ReferenceMath.lean ====
/- The reference's payloads at the extended reals are the specification's. -/
module

public import proofs.«01_k».proof.Proof.ReferenceBlocks
public import proofs.«01_k».proof.Proof.Spec

@[expose] public section

set_option maxRecDepth 16384

noncomputable section

namespace Cert.ReferenceIdeal.Hand

open Cert.ReferenceIdeal Cert.ReferenceIdeal.Gen Cert.Swiglu Idealize.ShloMosaic Idealize.ShloMosaic.ValueIdx

/-- A [1] array has one index. -/
theorem idx_S1 (x y : S1.Idx) : x = y := by
  funext a
  match a with
  | ⟨0, _⟩ =>
    have hx : (x 0).val < 1 := (x 0).isLt
    have hy : (y 0).val < 1 := (y 0).isLt
    exact Fin.ext (by show (x 0).val = (y 0).val; omega)

variable (h : Vec Ideal S3072x18176 .bf16)

/-- The gated values. -/
theorem pay1_apply (r : Fin 3072) (k : Fin 9088) : k0_pay1 (F := Ideal) h (ix2 r k) = xat h r k := by
  unfold k0_pay1
  simp only [shapeCast_self]
  have e0 : (extractStridedSlice S3072x9088 ![0, 0] (extf (F := Ideal) .f32 h bitsLt_bf16_f32) slices_S3072x18176_o0_0_S3072x9088 (ix2 r k) : EReal)
      = h (ix2 r ⟨k.val, by omega⟩) := by
    unfold extractStridedSlice
    show h _ = h _
    congr 1
    funext a
    match a with
    | ⟨0, _⟩ => exact Fin.ext (by show 0 + r.val = r.val; omega)
    | ⟨1, _⟩ => exact Fin.ext (by show 0 + k.val = k.val; omega)
  have e1 : (extractStridedSlice S3072x9088 ![0, 9088] (extf (F := Ideal) .f32 h bitsLt_bf16_f32) slices_S3072x18176_o0_9088_S3072x9088 (ix2 r k) : EReal)
      = h (ix2 r ⟨9088 + k.val, by omega⟩) := by
    unfold extractStridedSlice
    show h _ = h _
    congr 1
    funext a
    match a with
    | ⟨0, _⟩ => exact Fin.ext (by show 0 + r.val = r.val; omega)
    | ⟨1, _⟩ => exact Fin.ext (by show 9088 + k.val = 9088 + k.val; rfl)
  unfold xat
  rw [← sw_logistic, ← e0, ← e1]
  rfl

/-- The exponent's statements, of any greatest magnitude. -/
theorem exponent_eq (a : Ideal .f32) :
    Scalar.select (Scalar.cmpf .olt (Scalar.mulf a (Scalar.ofBits .f32 0x3B124925#32)) (Scalar.ofBits .f32 0x00800000#32)) (Scalar.ofBits (F := Ideal) .f32 0x00000000#32)
      (Scalar.addf (Scalar.floor (Scalar.divf (Scalar.log (Scalar.mulf a (Scalar.ofBits .f32 0x3B124925#32))) (Scalar.log (Scalar.ofBits .f32 0x40000000#32))))
        (Scalar.ofBits .f32 0x3F800000#32))
      = refExp ((a : EReal) * Ideal.ofBits .f32 0x3B124925#32) := rfl

/-- The product's statements, of any codes and scale. -/
theorem product_apply (x : FVec Ideal S3072x9088 .fp8e4m3) (w : Vec Ideal S9088x2560 .fp8e4m3) (s ws : Ideal .f32) (r : Fin 3072) (n : Fin 2560) :
    (truncf (F := Ideal) .bf16 (mulf (matmul (F := Ideal) (φ₁ := .fp8e4m3) (φ₂ := .fp8e4m3) dot_S3072x9088_S9088x2560_S3072x2560_1_0_0_1_n_n none x w (constant S3072x2560 .f32 0x00000000#32))
        (broadcast S3072x2560 (Scalar.mulf s ws))) bitsLt_bf16_f32 (ix2 r n) : EReal)
      = (∑ k : Fin 9088, (x (ix2 r k) : EReal) * w (ix2 k n)) * ((s : EReal) * ws) := by
  show (matmul (F := Ideal) (φ₁ := .fp8e4m3) (φ₂ := .fp8e4m3) dot_S3072x9088_S9088x2560_S3072x2560_1_0_0_1_n_n none x w (constant S3072x2560 .f32 0x00000000#32) (ix2 r n) : EReal) * ((s : EReal) * ws) = _
  refine congrArg (fun y : EReal => y * ((s : EReal) * ws)) ?_
  simp only [matmul]
  rw [Ideal.matmul_constant_zero_apply]
  have hr : dot_S3072x9088_S9088x2560_S3072x2560_1_0_0_1_n_n.contr.rank = 1 := rfl
  have hs : dot_S3072x9088_S9088x2560_S3072x2560_1_0_0_1_n_n.contr.size ⟨0, by omega⟩ = 9088 := rfl
  rw [← Equiv.sum_comp (contrEquiv1 dot_S3072x9088_S9088x2560_S3072x2560_1_0_0_1_n_n 9088 hr hs).symm]
  refine Finset.sum_congr rfl fun k _ => ?_
  have hv := contrEquiv1_symm_val dot_S3072x9088_S9088x2560_S3072x2560_1_0_0_1_n_n 9088 hr hs k
  have hl : dot_S3072x9088_S9088x2560_S3072x2560_1_0_0_1_n_n.lhsIdx (ix2 r n) ((contrEquiv1 dot_S3072x9088_S9088x2560_S3072x2560_1_0_0_1_n_n 9088 hr hs).symm k) = ix2 r k := by
    funext a
    match a with
    | ⟨0, _⟩ => rfl
    | ⟨1, _⟩ => exact Fin.ext hv
  have hw : dot_S3072x9088_S9088x2560_S3072x2560_1_0_0_1_n_n.rhsIdx (ix2 r n) ((contrEquiv1 dot_S3072x9088_S9088x2560_S3072x2560_1_0_0_1_n_n 9088 hr hs).symm k) = ix2 k n := by
    funext a
    match a with
    | ⟨0, _⟩ => exact Fin.ext hv
    | ⟨1, _⟩ => rfl
  rw [hl, hw]

/-- The exponent. -/
theorem pay2_eq : k0_pay2 (F := Ideal) h = refExp (quo h) := by
  unfold k0_pay2
  have e : (extractAt ![0, 0, 0] (shapeCast S1x1x1 (multiReduction (F := Ideal) .maximumf [1, 2] S1 (shapeCast S1x3072x9088 (absf (k0_pay1 h)) shapeCasts_S3072x9088_S1x3072x9088) 0xFF800000#32 reduces_S1x3072x9088_S1 (.inl rfl) rfl) shapeCasts_S1_S1x1x1) inpos_S1x1x1_p0_0_0 : EReal)
      = amax h := by
    unfold extractAt
    rw [show ∀ (x : FVec Ideal S1 .f32) (h : S1.ShapeCasts S1x1x1) (k : S1x1x1.Idx), shapeCast S1x1x1 x h k = x i1 from
      fun x h k => congrArg x (idx_S1 _ _)]
    refine eq_of_forall_ge_iff fun b => ?_
    refine (maxRed_le _ _ (by decide) _ _ _ _).trans ?_
    refine (forall_shapeCast _ _ (fun x : EReal => x ≤ b)).trans ?_
    rw [amax_le]
    constructor
    · intro H r k
      have := H (ix2 r k)
      rw [← pay1_apply]
      exact this
    · intro H i
      obtain ⟨r, k, rfl⟩ : ∃ (r : Fin 3072) (k : Fin 9088), i = ix2 r k := ⟨i 0, i 1, eq_ix2 i⟩
      have := H r k
      rw [← pay1_apply] at this
      exact this
  unfold quo
  dsimp only
  generalize extractAt ![0, 0, 0] (shapeCast S1x1x1 (multiReduction (F := Ideal) .maximumf [1, 2] S1 (shapeCast S1x3072x9088 (absf (k0_pay1 h)) shapeCasts_S3072x9088_S1x3072x9088) 0xFF800000#32 reduces_S1x3072x9088_S1 (.inl rfl) rfl) shapeCasts_S1_S1x1x1) inpos_S1x1x1_p0_0_0 = a at e ⊢
  refine (exponent_eq a).trans ?_
  exact congrArg (fun a : EReal => refExp (a * Ideal.ofBits .f32 0x3B124925#32)) e

/-- The scale. -/
theorem pay3_eq : k0_pay3 (F := Ideal) h = scale h := by
  unfold k0_pay3 scale
  rw [pay2_eq]
  rfl

/-- The codes' statements, of any gated values and exponent. -/
theorem clip_apply (x : FVec Ideal S3072x9088 .f32) (e : Ideal .f32) (i : S3072x9088.Idx) :
    (truncf (F := Ideal) .fp8e4m3 (minimumf (broadcast S3072x9088 (Scalar.ofBits .f32 0x43E00000#32)) (maximumf (broadcast S3072x9088 (Scalar.ofBits .f32 0xC3E00000#32))
        (mulf x (broadcast S3072x9088 (Scalar.exp2 (Scalar.subf (Scalar.ofBits .f32 0x00000000#32) e)))))) bitsLt_fp8e4m3_f32 i : EReal)
      = min (Ideal.ofBits .f32 0x43E00000#32) (max (Ideal.ofBits .f32 0xC3E00000#32) ((x i : EReal) * Ideal.exp2 (Ideal.ofBits .f32 0x00000000#32 - e))) := rfl

/-- The codes. -/
theorem pay4_apply (r : Fin 3072) (k : Fin 9088) : k0_pay4 (F := Ideal) h (ix2 r k) = codeAt h r k := by
  unfold k0_pay4 codeAt
  refine (clip_apply _ _ _).trans ?_
  rw [pay1_apply, pay2_eq]

/-- The output. -/
theorem pay5_apply (w : Vec Ideal S9088x2560 .fp8e4m3) (ws : EReal) (r : Fin 3072) (n : Fin 2560) :
    k0_pay5 (F := Ideal) h w ws (ix2 r n) = yat h w ws r n := by
  unfold k0_pay5 yat
  refine (product_apply _ _ _ _ _ _).trans ?_
  rw [pay3_eq]
  refine congrArg (fun y : EReal => y * (scale h * ws)) (Finset.sum_congr rfl fun k _ => ?_)
  rw [pay4_apply]

end Cert.ReferenceIdeal.Hand

end
-- ==== Proof.ReferenceResult.lean ====
/- The reference's three result arrays at the extended reals, from its arguments. -/
module

public import proofs.«01_k».proof.Proof.ReferenceMath
public import Idealize.ShloMosaic.Lib.StableHlo.Run

@[expose] public section

set_option maxRecDepth 16384

noncomputable section

namespace Cert.ReferenceIdeal.Hand

open Cert.ReferenceIdeal Cert.ReferenceIdeal.Gen Cert.Swiglu Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The hidden array as rows and columns. -/
abbrev rows (h : Vec Ideal S1x3072x18176 .bf16) : (⟨2, ![3072, 18176]⟩ : Shape).Idx → EReal :=
  shapeCast S3072x18176 h shapeCasts_S1x3072x18176_S3072x18176

theorem V_v0 : (V m c main_v0 : Vec Ideal S3072x18176 .bf16) = rows (m ((c : Thread nD τ).loc main_arg0)) := by
  show StableHlo.after hostOps0 (fun b => m (c, b)) (Proc.devRef .tc main_v0) = _
  rw [StableHlo.after_cons, StableHlo.after_cons, StableHlo.after_nil]
  rfl

theorem V_v1 : (V m c main_v1 : Vec Ideal S1 .f32) i1 = (m ((c : Thread nD τ).loc main_arg2) : Vec Ideal S_ .f32) ix0 := by
  show StableHlo.after hostOps0 (fun b => m (c, b)) (Proc.devRef .tc main_v1) i1 = _
  rw [StableHlo.after_cons, StableHlo.after_cons, StableHlo.after_nil]
  show (m ((c : Thread nD τ).loc main_arg2) : Vec Ideal S_ .f32) _ = _
  exact congrArg (m ((c : Thread nD τ).loc main_arg2) : Vec Ideal S_ .f32) (eq_ix0 _)

/-! ## Each window reads its whole array -/

theorem iblk_0 (t : Fin cfg0.N) : (iblk m c 0 t : Vec Ideal S3072x18176 .bf16) = rows (m ((c : Thread nD τ).loc main_arg0)) := by
  rw [← V_v0 m c]
  funext i
  unfold iblk
  rw [View.read_apply]
  show V m c main_v0 _ = V m c main_v0 _
  congr 1
  funext a
  apply Fin.ext
  match a with
  | ⟨0, _⟩ => show 0 * 3072 + 1 * (i 0).val = (i 0).val; omega
  | ⟨1, _⟩ => show 0 * 18176 + 1 * (i 1).val = (i 1).val; omega

theorem iblk_1 (t : Fin cfg0.N) : (iblk m c 1 t : Vec Ideal S9088x2560 .fp8e4m3) = (m ((c : Thread nD τ).loc main_arg1) : Vec Ideal S9088x2560 .fp8e4m3) := by
  rw [← V_main_arg1 m c]
  funext i
  unfold iblk
  rw [View.read_apply]
  show V m c main_arg1 _ = V m c main_arg1 _
  congr 1
  funext a
  apply Fin.ext
  match a with
  | ⟨0, _⟩ => show 0 * 9088 + 1 * (i 0).val = (i 0).val; omega
  | ⟨1, _⟩ => show 0 * 2560 + 1 * (i 1).val = (i 1).val; omega

theorem iblk_2 (t : Fin cfg0.N) : (iblk m c 2 t : Vec Ideal S1 .f32) i1 = (m ((c : Thread nD τ).loc main_arg2) : Vec Ideal S_ .f32) ix0 := by
  rw [← V_v1 m c]
  unfold iblk
  rw [View.read_apply]
  exact congrArg (V m c main_v1 : Vec Ideal S1 .f32) (idx_S1 _ _)

/-- The result arrays, from the arguments. -/
abbrev resY : Vec Ideal S3072x2560 .bf16 := fun i => yat (rows (m ((c : Thread nD τ).loc main_arg0)))
  (m ((c : Thread nD τ).loc main_arg1) : Vec Ideal S9088x2560 .fp8e4m3) ((m ((c : Thread nD τ).loc main_arg2) : Vec Ideal S_ .f32) ix0) (i 0) (i 1)
abbrev resC : Vec Ideal S3072x9088 .fp8e4m3 := fun i => codeAt (rows (m ((c : Thread nD τ).loc main_arg0))) (i 0) (i 1)
abbrev resS : Vec Ideal S1 .f32 := fun _ => scale (rows (m ((c : Thread nD τ).loc main_arg0)))

/-! ## The one point writes back whole arrays -/

theorem flushed_3 (t : Fin cfg0.N) : (dats m 0 c).flushed 3 t = ((cfg0.win 3).blk t).view.read (Elt Ideal) (resY m c) := by
  rw [Value.flushed3_A, out_3]
  funext i
  obtain ⟨r, n, rfl⟩ : ∃ (r : Fin 3072) (n : Fin 2560), i = ix2 r n := ⟨i 0, i 1, eq_ix2 i⟩
  rw [View.read_apply]
  refine Eq.trans (pay5_apply (iblk m c 0 t) (iblk m c 1 t) ((iblk m c 2 t : Vec Ideal S1 .f32) i1) r n) ?_
  rw [iblk_0, iblk_1, iblk_2]
  show yat _ _ _ r n = yat _ _ _ _ _
  congr 1
  · exact Fin.ext (by show r.val = 0 * 3072 + 1 * r.val; omega)
  · exact Fin.ext (by show n.val = 0 * 2560 + 1 * n.val; omega)

theorem flushed_4 (t : Fin cfg0.N) : (dats m 0 c).flushed 4 t = ((cfg0.win 4).blk t).view.read (Elt Ideal) (resC m c) := by
  rw [Value.flushed4_A, out_4]
  funext i
  obtain ⟨r, k, rfl⟩ : ∃ (r : Fin 3072) (k : Fin 9088), i = ix2 r k := ⟨i 0, i 1, eq_ix2 i⟩
  rw [View.read_apply]
  refine Eq.trans (pay4_apply (iblk m c 0 t) r k) ?_
  rw [iblk_0]
  show codeAt _ r k = codeAt _ _ _
  congr 1
  · exact Fin.ext (by show r.val = 0 * 3072 + 1 * r.val; omega)
  · exact Fin.ext (by show k.val = 0 * 9088 + 1 * k.val; omega)

theorem flushed_5 (t : Fin cfg0.N) : (dats m 0 c).flushed 5 t = ((cfg0.win 5).blk t).view.read (Elt Ideal) (resS m c) := by
  rw [Value.flushed5_A, out_5]
  funext i
  rw [View.read_apply]
  refine Eq.trans (pay3_eq (iblk m c 0 t)) ?_
  rw [iblk_0]
  rfl

/-- The one point. -/
abbrev pt0 : Fin cfg0.N := ⟨0, by decide⟩

theorem cover_3 (i : S3072x2560.Idx) : ∃ t : Fin cfg0.N, (cfg0.win 3).flush t = true ∧ i ∈ ((cfg0.win 3).blk t).view.set := by
  refine ⟨pt0, flush0_3 _, ?_⟩
  show i ∈ ((View.whole main_v2_0).slice (win0_3.rect pt0)).set
  rw [View.set_slice_whole, Rect.mem_set_unit]
  intro a
  have h0 : (i 0 : Nat) < 3072 := (i 0).isLt
  have h1 : (i 1 : Nat) < 2560 := (i 1).isLt
  match a with
  | ⟨0, _⟩ => show 0 * 3072 ≤ (i 0 : Nat) ∧ (i 0 : Nat) < 0 * 3072 + win0_3.xsize (grid0.coords pt0) 0
              rw [show win0_3.xsize (grid0.coords pt0) 0 = 3072 from by decide +kernel]; omega
  | ⟨1, _⟩ => show 0 * 2560 ≤ (i 1 : Nat) ∧ (i 1 : Nat) < 0 * 2560 + win0_3.xsize (grid0.coords pt0) 1
              rw [show win0_3.xsize (grid0.coords pt0) 1 = 2560 from by decide +kernel]; omega

theorem cover_4 (i : S3072x9088.Idx) : ∃ t : Fin cfg0.N, (cfg0.win 4).flush t = true ∧ i ∈ ((cfg0.win 4).blk t).view.set := by
  refine ⟨pt0, flush0_4 _, ?_⟩
  show i ∈ ((View.whole main_v2_1).slice (win0_4.rect pt0)).set
  rw [View.set_slice_whole, Rect.mem_set_unit]
  intro a
  have h0 : (i 0 : Nat) < 3072 := (i 0).isLt
  have h1 : (i 1 : Nat) < 9088 := (i 1).isLt
  match a with
  | ⟨0, _⟩ => show 0 * 3072 ≤ (i 0 : Nat) ∧ (i 0 : Nat) < 0 * 3072 + win0_4.xsize (grid0.coords pt0) 0
              rw [show win0_4.xsize (grid0.coords pt0) 0 = 3072 from by decide +kernel]; omega
  | ⟨1, _⟩ => show 0 * 9088 ≤ (i 1 : Nat) ∧ (i 1 : Nat) < 0 * 9088 + win0_4.xsize (grid0.coords pt0) 1
              rw [show win0_4.xsize (grid0.coords pt0) 1 = 9088 from by decide +kernel]; omega

theorem cover_5 (i : S1.Idx) : ∃ t : Fin cfg0.N, (cfg0.win 5).flush t = true ∧ i ∈ ((cfg0.win 5).blk t).view.set := by
  refine ⟨pt0, flush0_5 _, ?_⟩
  show i ∈ ((View.whole main_v2_2).slice (win0_5.rect pt0)).set
  rw [View.set_slice_whole, Rect.mem_set_unit]
  intro a
  have h0 : (i 0 : Nat) < 1 := (i 0).isLt
  match a with
  | ⟨0, _⟩ => show 0 * 1 ≤ (i 0 : Nat) ∧ (i 0 : Nat) < 0 * 1 + win0_5.xsize (grid0.coords pt0) 0
              rw [show win0_5.xsize (grid0.coords pt0) 0 = 1 from by decide +kernel]; omega

/-- The reference's run: the three results, the arguments unchanged. -/
theorem run_results : θ_run defs (onTc (τ := τ) (main (F := Ideal))) ⟨m, fun _ => 0, ρ⟩ fun r => ∀ c : Dev nD,
      r.2.mem ((c : Thread nD τ).loc main_v2_0) = resY m c
      ∧ r.2.mem ((c : Thread nD τ).loc main_v2_1) = resC m c
      ∧ r.2.mem ((c : Thread nD τ).loc main_v2_2) = resS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((dats m 0 c).arrAt_eq_of_cover 3 (resY m c) (fun t _ => flushed_3 m c t) cover_3),
     (h c).2.1.trans ((dats m 0 c).arrAt_eq_of_cover 4 (resC m c) (fun t _ => flushed_4 m c t) cover_4),
     (h c).2.2.1.trans ((dats m 0 c).arrAt_eq_of_cover 5 (resS m c) (fun t _ => flushed_5 m c t) cover_5),
     (h c).2.2.2⟩) (Value.run_blocks (F := Ideal) m ρ)

end Cert.ReferenceIdeal.Hand

end
-- ==== Proof.Finite.lean ====
/- What the precondition says: the greatest gated magnitude is at most the greatest finite float32. -/
module

public import proofs.«01_k».proof.Proof.Gen.Pre_finite
public import proofs.«01_k».proof.Proof.KernelResult
public import Idealize.ShloMosaic.Lib.ReduceAll

@[expose] public section

set_option maxRecDepth 16384

noncomputable section

namespace Cert.Swiglu

open Cert.Pre_finite Idealize.ShloMosaic Idealize.ShloMosaic.ValueIdx

variable [Cert.Pre_finite.Facts]

instance : Subsingleton Cert.Pre_finite.S_.Idx := ⟨fun x y => (eq_ix0 x).trans (eq_ix0 y).symm⟩

theorem mag_le_of_cmp (x b : EReal) (e : Ideal.cmp .ole x b = 1#1) : x ≤ b := by
  have e : BitVec.ofBool (decide (x ≤ b)) = 1#1 := e
  by_contra hn
  rw [decide_eq_false hn] at e
  exact absurd e (by decide)

theorem slice_gate (x : FVec Ideal S1x3072x18176 .f32) (r : Fin 3072) (k : Fin 9088) :
    extractStridedSlice S1x3072x9088 ![0, 0, 0] x Facts.slices_S1x3072x18176_S1x3072x9088_0_0_0 (ix3 0 r k) = x (ix3 0 r ⟨k.val, by omega⟩) := by
  unfold extractStridedSlice
  refine congrArg x (funext fun a => ?_)
  match a with
  | ⟨0, _⟩ => exact Fin.ext (by show 0 + 0 = 0; rfl)
  | ⟨1, _⟩ => exact Fin.ext (by show 0 + r.val = r.val; omega)
  | ⟨2, _⟩ => exact Fin.ext (by show 0 + k.val = k.val; omega)

theorem slice_up (x : FVec Ideal S1x3072x18176 .f32) (r : Fin 3072) (k : Fin 9088) :
    extractStridedSlice S1x3072x9088 ![0, 0, 9088] x Facts.slices_S1x3072x18176_S1x3072x9088_0_0_9088 (ix3 0 r k) = x (ix3 0 r ⟨9088 + k.val, by omega⟩) := by
  unfold extractStridedSlice
  refine congrArg x (funext fun a => ?_)
  match a with
  | ⟨0, _⟩ => exact Fin.ext (by show 0 + 0 = 0; rfl)
  | ⟨1, _⟩ => exact Fin.ext (by show 0 + r.val = r.val; omega)
  | ⟨2, _⟩ => exact Fin.ext (by show 9088 + k.val = 9088 + k.val; rfl)

/-- The precondition's comparison of one element, of any two slices. -/
theorem compare_apply (g u : FVec Ideal S1x3072x9088 .f32) (i : S1x3072x9088.Idx) :
    cmpf (F := Ideal) .ole (Host.absf (mulf (fn_silu (F := Ideal) g) u))
        (broadcastInDim S1x3072x9088 ![] Facts.bcast_S_S1x3072x9088 (constant S_ .f32 0x7F7FFFFF#32)) i
      = Ideal.cmp .ole (mag ((g i : EReal) * Ideal.div (Ideal.ofBits .f32 0x3F800000#32) (Ideal.ofBits .f32 0x3F800000#32 + Ideal.exp (-(g i : EReal))) * (u i : EReal)))
          (Ideal.ofBits .f32 0x7F7FFFFF#32) := rfl

/-- Where the precondition is 1, every gated value's magnitude is a finite float32's. -/
theorem mag_le_of_pre (h : FVec Ideal S1x3072x18176 .bf16) (w : FVec Ideal S9088x2560 .fp8e4m3) (ws : FVec Ideal S_ .f32)
    (e : fn (F := Ideal) h w ws = fun _ => 1#1) (r : Fin 3072) (k : Fin 9088) :
    mag (sw (h (ix3 0 r ⟨k.val, by omega⟩)) (h (ix3 0 r ⟨9088 + k.val, by omega⟩))) ≤ Ideal.ofBits .f32 0x7F7FFFFF#32 := by
  have e0 := congrFun e ix0
  unfold fn at e0
  dsimp only at e0
  have e1 := Host.reduce_andi_all _ _ _ _ _ e0 (ix3 0 r k)
  rw [compare_apply, slice_gate, slice_up, sw_quotient] at e1
  exact mag_le_of_cmp _ _ e1

/-- A row and a column of the hidden array. -/
theorem rows_apply (h : FVec Ideal S1x3072x18176 .bf16) (r : Fin 3072) (k : Fin 18176) :
    Cert.KernelIdeal.Hand.rows h (ix2 r k) = h (ix3 0 r k) := by
  refine shapeCast_apply h _ _ _ ?_
  rw [Shape.rowMajor_val_three, Shape.rowMajor_val_two]
  show (0 * 3072 + r.val) * 18176 + k.val = r.val * 18176 + k.val
  omega

/-- The precondition bounds the greatest magnitude. -/
theorem amax_le_of_pre (h : FVec Ideal S1x3072x18176 .bf16) (w : FVec Ideal S9088x2560 .fp8e4m3) (ws : FVec Ideal S_ .f32)
    (e : fn (F := Ideal) h w ws = fun _ => 1#1) : amax (Cert.KernelIdeal.Hand.rows h) ≤ Ideal.ofBits .f32 0x7F7FFFFF#32 := by
  rw [amax_le]
  intro r k
  unfold xat
  rw [rows_apply, rows_apply]
  exact mag_le_of_pre h w ws e r k

end Cert.Swiglu

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.KernelResult
public import proofs.«01_k».proof.Proof.ReferenceResult
public import proofs.«01_k».proof.Proof.Finite
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_finite.Gen.facts

/-- From equal arguments within the precondition, the kernel's three results are the reference's. -/
theorem value : Cert.algebraic_KernelIdeal_ReferenceIdeal_pre_finite := by
  intro m g m' g' hpre hargs
  refine ⟨fun c => Cert.KernelIdeal.Hand.resY m c, fun c => Cert.KernelIdeal.Hand.resC m c, fun c => Cert.KernelIdeal.Hand.resS m c,
    Cert.KernelIdeal.Hand.run_results m g fun c => Cert.Swiglu.amax_le_of_pre _ _ _ (hpre c), ?_⟩
  refine (θ_run _ _ _).mono (fun r h c => ?_) (Cert.ReferenceIdeal.Hand.run_results m' g')
  obtain ⟨h0, h1, h2, ha⟩ := h c
  obtain ⟨a0, a1, a2⟩ := hargs c
  unfold Cert.ReferenceIdeal.Hand.resY at h0
  unfold Cert.ReferenceIdeal.Hand.resC at h1
  unfold Cert.ReferenceIdeal.Hand.resS at h2
  rw [a0, a1, a2] at h0
  rw [a0] at h1 h2
  exact ⟨h0, h1, h2, ha⟩

theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, value⟩

end Cert.Proof

end
